-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v325) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S4x36x64 : Shape := ⟨3, ![4, 36, 64]⟩
abbrev S4x71x4 : Shape := ⟨3, ![4, 71, 4]⟩
abbrev S4x71x1 : Shape := ⟨3, ![4, 71, 1]⟩
abbrev S4x36x1 : Shape := ⟨3, ![4, 36, 1]⟩
abbrev S71 : Shape := ⟨1, ![71]⟩
abbrev S64x128x2x2 : Shape := ⟨4, ![64, 128, 2, 2]⟩
abbrev S128 : Shape := ⟨1, ![128]⟩
abbrev S128x128x2x2 : Shape := ⟨4, ![128, 128, 2, 2]⟩
abbrev S128x64x2x2 : Shape := ⟨4, ![128, 64, 2, 2]⟩
abbrev S64 : Shape := ⟨1, ![64]⟩
abbrev S64x64x2x2 : Shape := ⟨4, ![64, 64, 2, 2]⟩
abbrev S64x32x2x2 : Shape := ⟨4, ![64, 32, 2, 2]⟩
abbrev S32 : Shape := ⟨1, ![32]⟩
abbrev S32x3x2x2 : Shape := ⟨4, ![32, 3, 2, 2]⟩
abbrev S3 : Shape := ⟨1, ![3]⟩
abbrev S_ : Shape := ⟨0, ![]⟩
abbrev S4x36 : Shape := ⟨2, ![4, 36]⟩
abbrev S1x71x1 : Shape := ⟨3, ![1, 71, 1]⟩
abbrev S4x1x36 : Shape := ⟨3, ![4, 1, 36]⟩
abbrev S4x71x36 : Shape := ⟨3, ![4, 71, 36]⟩

class Facts : Prop where
  bcast_S_S71 : S_.BroadcastsInDim S71 (![] : Fin 0 → Fin S71.rank)
  shapeCasts_S4x36x1_S4x36 : S4x36x1.ShapeCasts S4x36
  bcast_S_S4x36 : S_.BroadcastsInDim S4x36 (![] : Fin 0 → Fin S4x36.rank)
  bcast_S71_S1x71x1_1 : S71.BroadcastsInDim S1x71x1 (![1] : Fin 1 → Fin S1x71x1.rank)
  bcast_S4x36_S4x1x36_0_2 : S4x36.BroadcastsInDim S4x1x36 (![0, 2] : Fin 2 → Fin S4x1x36.rank)
  bcast_S1x71x1_S4x71x36_0_1_2 : S1x71x1.BroadcastsInDim S4x71x36 (![0, 1, 2] : Fin 3 → Fin S4x71x36.rank)
  bcast_S4x1x36_S4x71x36_0_1_2 : S4x1x36.BroadcastsInDim S4x71x36 (![0, 1, 2] : Fin 3 → Fin S4x71x36.rank)

variable [Facts]

def fn {F : FTy → Type} [FloatOps F] (main_arg0 : FVec F S4x36x64 .f32) (main_arg1 : FVec F S4x71x4 .f32) (main_arg2 : FVec F S4x71x1 .f32) (main_arg3 : FVec F S4x36x1 .f32) (main_arg4 : IVec S71 32) (main_arg5 : FVec F S64x128x2x2 .f32) (main_arg6 : FVec F S128 .f32) (main_arg7 : FVec F S128x128x2x2 .f32) (main_arg8 : FVec F S128 .f32) (main_arg9 : FVec F S128x64x2x2 .f32) (main_arg10 : FVec F S64 .f32) (main_arg11 : FVec F S64x64x2x2 .f32) (main_arg12 : FVec F S64 .f32) (main_arg13 : FVec F S64x32x2x2 .f32) (main_arg14 : FVec F S32 .f32) (main_arg15 : FVec F S32x3x2x2 .f32) (main_arg16 : FVec F S3 .f32) : IVec S4x71x36 1 :=
  let main_c : IVec S_ 32 := constantI S_ 32 0#32
  let main_v0 : IVec S71 32 := broadcastInDim S71 ![] bcast_S_S71 main_c
  let main_v1 : IVec S71 1 := cmpi .sge main_arg4 main_v0
  let main_c_0 : IVec S_ 32 := constantI S_ 32 36#32
  let main_v2 : IVec S71 32 := broadcastInDim S71 ![] bcast_S_S71 main_c_0
  let main_v3 : IVec S71 1 := cmpi .slt main_arg4 main_v2
  let main_v4 : IVec S71 1 := andi main_v1 main_v3
  let main_v5 : FVec F S4x36 .f32 := shapeCast S4x36 main_arg3 shapeCasts_S4x36x1_S4x36
  let main_v6 : FVec F S4x36 .f32 := Host.absf main_v5
  let main_cst : FVec F S_ .f32 := constant S_ .f32 0x7F800000#32
  let main_v7 : FVec F S4x36 .f32 := broadcastInDim S4x36 ![] bcast_S_S4x36 main_cst
  let main_v8 : IVec S4x36 1 := cmpf .olt main_v6 main_v7
  let main_v9 : IVec S1x71x1 1 := broadcastInDim S1x71x1 ![1] bcast_S71_S1x71x1_1 main_v4
  let main_v10 : IVec S4x1x36 1 := broadcastInDim S4x1x36 ![0, 2] bcast_S4x36_S4x1x36_0_2 main_v8
  let main_v11 : IVec S4x71x36 1 := broadcastInDim S4x71x36 ![0, 1, 2] bcast_S1x71x1_S4x71x36_0_1_2 main_v9
  let main_v12 : IVec S4x71x36 1 := broadcastInDim S4x71x36 ![0, 1, 2] bcast_S4x1x36_S4x71x36_0_1_2 main_v10
  let main_v13 : IVec S4x71x36 1 := andi main_v11 main_v12
  main_v13
-- ==== Kernel.lean ====
abbrev S4x36x64 : Shape := ⟨3, ![4, 36, 64]⟩
abbrev S4x71x4 : Shape := ⟨3, ![4, 71, 4]⟩
abbrev S4x71x1 : Shape := ⟨3, ![4, 71, 1]⟩
abbrev S4x36x1 : Shape := ⟨3, ![4, 36, 1]⟩
abbrev S71 : Shape := ⟨1, ![71]⟩
abbrev S64x128x2x2 : Shape := ⟨4, ![64, 128, 2, 2]⟩
abbrev S128 : Shape := ⟨1, ![128]⟩
abbrev S128x128x2x2 : Shape := ⟨4, ![128, 128, 2, 2]⟩
abbrev S128x64x2x2 : Shape := ⟨4, ![128, 64, 2, 2]⟩
abbrev S64 : Shape := ⟨1, ![64]⟩
abbrev S64x64x2x2 : Shape := ⟨4, ![64, 64, 2, 2]⟩
abbrev S64x32x2x2 : Shape := ⟨4, ![64, 32, 2, 2]⟩
abbrev S32 : Shape := ⟨1, ![32]⟩
abbrev S32x3x2x2 : Shape := ⟨4, ![32, 3, 2, 2]⟩
abbrev S3 : Shape := ⟨1, ![3]⟩
abbrev S_ : Shape := ⟨0, ![]⟩
abbrev S72 : Shape := ⟨1, ![72]⟩
abbrev S1x1x72 : Shape := ⟨3, ![1, 1, 72]⟩
abbrev S288 : Shape := ⟨1, ![288]⟩
abbrev S288x1 : Shape := ⟨2, ![288, 1]⟩
abbrev S9x1x32 : Shape := ⟨3, ![9, 1, 32]⟩
abbrev S144x64 : Shape := ⟨2, ![144, 64]⟩
abbrev S4x72x4 : Shape := ⟨3, ![4, 72, 4]⟩
abbrev S4x72x1 : Shape := ⟨3, ![4, 72, 1]⟩
abbrev S2x2x64x128 : Shape := ⟨4, ![2, 2, 64, 128]⟩
abbrev S4x64x128 : Shape := ⟨3, ![4, 64, 128]⟩
abbrev S1x128 : Shape := ⟨2, ![1, 128]⟩
abbrev S2x2x128x128 : Shape := ⟨4, ![2, 2, 128, 128]⟩
abbrev S4x128x128 : Shape := ⟨3, ![4, 128, 128]⟩
abbrev S2x2x128x64 : Shape := ⟨4, ![2, 2, 128, 64]⟩
abbrev S4x128x64 : Shape := ⟨3, ![4, 128, 64]⟩
abbrev S1x64 : Shape := ⟨2, ![1, 64]⟩
abbrev S2x2x64x64 : Shape := ⟨4, ![2, 2, 64, 64]⟩
abbrev S4x64x64 : Shape := ⟨3, ![4, 64, 64]⟩
abbrev S2x2x64x32 : Shape := ⟨4, ![2, 2, 64, 32]⟩
abbrev S4x64x32 : Shape := ⟨3, ![4, 64, 32]⟩
abbrev S1x32 : Shape := ⟨2, ![1, 32]⟩
abbrev S2x2x32x3 : Shape := ⟨4, ![2, 2, 32, 3]⟩
abbrev S4x32x3 : Shape := ⟨3, ![4, 32, 3]⟩
abbrev S1x3 : Shape := ⟨2, ![1, 3]⟩
abbrev S64x4x128 : Shape := ⟨3, ![64, 4, 128]⟩
abbrev S64x512 : Shape := ⟨2, ![64, 512]⟩
abbrev S128x4x128 : Shape := ⟨3, ![128, 4, 128]⟩
abbrev S128x512 : Shape := ⟨2, ![128, 512]⟩
abbrev S9x32x64x3x64 : Shape := ⟨5, ![9, 32, 64, 3, 64]⟩
abbrev S1x1x32 : Shape := ⟨3, ![1, 1, 32]⟩
abbrev S1x32x64x3x64 : Shape := ⟨5, ![1, 32, 64, 3, 64]⟩
abbrev S32x2x2x128 : Shape := ⟨4, ![32, 2, 2, 128]⟩
abbrev S32x4x4x128 : Shape := ⟨4, ![32, 4, 4, 128]⟩
abbrev S32x8x8x64 : Shape := ⟨4, ![32, 8, 8, 64]⟩
abbrev S32x16x16x64 : Shape := ⟨4, ![32, 16, 16, 64]⟩
abbrev S32x32x32x32 : Shape := ⟨4, ![32, 32, 32, 32]⟩
abbrev S144x32 : Shape := ⟨2, ![144, 32]⟩
abbrev S32x64 : Shape := ⟨2, ![32, 64]⟩
abbrev S32x512 : Shape := ⟨2, ![32, 512]⟩
abbrev S32x128 : Shape := ⟨2, ![32, 128]⟩
abbrev S32x1x1x128 : Shape := ⟨4, ![32, 1, 1, 128]⟩
abbrev S128x128 : Shape := ⟨2, ![128, 128]⟩
abbrev S512x128 : Shape := ⟨2, ![512, 128]⟩
abbrev S1x128x64 : Shape := ⟨3, ![1, 128, 64]⟩
abbrev S128x64 : Shape := ⟨2, ![128, 64]⟩
abbrev S512x64 : Shape := ⟨2, ![512, 64]⟩
abbrev S32x4x4x64 : Shape := ⟨4, ![32, 4, 4, 64]⟩
abbrev S2048x64 : Shape := ⟨2, ![2048, 64]⟩
abbrev S1x64x64 : Shape := ⟨3, ![1, 64, 64]⟩
abbrev S64x64 : Shape := ⟨2, ![64, 64]⟩
abbrev S8192x64 : Shape := ⟨2, ![8192, 64]⟩
abbrev S1x64x32 : Shape := ⟨3, ![1, 64, 32]⟩
abbrev S64x32 : Shape := ⟨2, ![64, 32]⟩
abbrev S8192x32 : Shape := ⟨2, ![8192, 32]⟩
abbrev S32x16x16x32 : Shape := ⟨4, ![32, 16, 16, 32]⟩
abbrev S32768x32 : Shape := ⟨2, ![32768, 32]⟩
abbrev S1x32x3 : Shape := ⟨3, ![1, 32, 3]⟩
abbrev S32x3 : Shape := ⟨2, ![32, 3]⟩
abbrev S32768x3 : Shape := ⟨2, ![32768, 3]⟩
abbrev S1024x32x3 : Shape := ⟨3, ![1024, 32, 3]⟩
abbrev S1024x64x3 : Shape := ⟨3, ![1024, 64, 3]⟩
abbrev S1024x3x64 : Shape := ⟨3, ![1024, 3, 64]⟩
abbrev S32x32x3x64 : Shape := ⟨4, ![32, 32, 3, 64]⟩
abbrev S1x32x32x3x64 : Shape := ⟨5, ![1, 32, 32, 3, 64]⟩
abbrev S4x72x64x192 : Shape := ⟨4, ![4, 72, 64, 192]⟩
abbrev S4x3x96x96 : Shape := ⟨4, ![4, 3, 96, 96]⟩
abbrev S1x72x64x192 : Shape := ⟨4, ![1, 72, 64, 192]⟩
abbrev S1x72x4 : Shape := ⟨3, ![1, 72, 4]⟩
abbrev S1x36x1 : Shape := ⟨3, ![1, 36, 1]⟩
abbrev S1x72x1 : Shape := ⟨3, ![1, 72, 1]⟩
abbrev S1x3x96x96 : Shape := ⟨4, ![1, 3, 96, 96]⟩
abbrev S1x72 : Shape := ⟨2, ![1, 72]⟩
abbrev S36x72 : Shape := ⟨2, ![36, 72]⟩
abbrev S36x1 : Shape := ⟨2, ![36, 1]⟩
abbrev S72x1 : Shape := ⟨2, ![72, 1]⟩
abbrev S1 : Shape := ⟨1, ![1]⟩
abbrev S1x1x1 : Shape := ⟨3, ![1, 1, 1]⟩
abbrev S72x72 : Shape := ⟨2, ![72, 72]⟩
abbrev S72x4 : Shape := ⟨2, ![72, 4]⟩
abbrev S1x96 : Shape := ⟨2, ![1, 96]⟩
abbrev S72x96 : Shape := ⟨2, ![72, 96]⟩
abbrev S72x96x64 : Shape := ⟨3, ![72, 96, 64]⟩
abbrev S72x96x1 : Shape := ⟨3, ![72, 96, 1]⟩
abbrev S72x1x1 : Shape := ⟨3, ![72, 1, 1]⟩
abbrev S72x64x96 : Shape := ⟨3, ![72, 64, 96]⟩
abbrev S72x1x96 : Shape := ⟨3, ![72, 1, 96]⟩
abbrev S72x64x192 : Shape := ⟨3, ![72, 64, 192]⟩
abbrev S72x96x192 : Shape := ⟨3, ![72, 96, 192]⟩
abbrev S72x96x96 : Shape := ⟨3, ![72, 96, 96]⟩
abbrev S96x96 : Shape := ⟨2, ![96, 96]⟩
abbrev S1x96x96 : Shape := ⟨3, ![1, 96, 96]⟩
abbrev S3x96x96 : Shape := ⟨3, ![3, 96, 96]⟩

abbrev nBuf : Space → Nat
  | .hbm => 108
  | .vmem => 33
  | .smem => 0
  | _ => 0

abbrev bufTy : (tb : Table) → Fin (tcTables nBuf tb) → BufTy
  | .hbm, ⟨0, _⟩ => ⟨S4x36x64, .f32⟩
  | .hbm, ⟨1, _⟩ => ⟨S4x71x4, .f32⟩
  | .hbm, ⟨2, _⟩ => ⟨S4x71x1, .f32⟩
  | .hbm, ⟨3, _⟩ => ⟨S4x36x1, .f32⟩
  | .hbm, ⟨4, _⟩ => ⟨S71, .i32⟩
  | .hbm, ⟨5, _⟩ => ⟨S64x128x2x2, .f32⟩
  | .hbm, ⟨6, _⟩ => ⟨S128, .f32⟩
  | .hbm, ⟨7, _⟩ => ⟨S128x128x2x2, .f32⟩
  | .hbm, ⟨8, _⟩ => ⟨S128, .f32⟩
  | .hbm, ⟨9, _⟩ => ⟨S128x64x2x2, .f32⟩
  | .hbm, ⟨10, _⟩ => ⟨S64, .f32⟩
  | .hbm, ⟨11, _⟩ => ⟨S64x64x2x2, .f32⟩
  | .hbm, ⟨12, _⟩ => ⟨S64, .f32⟩
  | .hbm, ⟨13, _⟩ => ⟨S64x32x2x2, .f32⟩
  | .hbm, ⟨14, _⟩ => ⟨S32, .f32⟩
  | .hbm, ⟨15, _⟩ => ⟨S32x3x2x2, .f32⟩
  | .hbm, ⟨16, _⟩ => ⟨S3, .f32⟩
  | .hbm, ⟨17, _⟩ => ⟨S_, .i32⟩
  | .hbm, ⟨18, _⟩ => ⟨S_, .i32⟩
  | .hbm, ⟨19, _⟩ => ⟨S72, .i32⟩
  | .hbm, ⟨20, _⟩ => ⟨S1x1x72, .i32⟩
  | .hbm, ⟨21, _⟩ => ⟨S288, .i32⟩
  | .hbm, ⟨22, _⟩ => ⟨S_, .i32⟩
  | .hbm, ⟨23, _⟩ => ⟨S_, .i32⟩
  | .hbm, ⟨24, _⟩ => ⟨S288, .i32⟩
  | .hbm, ⟨25, _⟩ => ⟨S288, .i32⟩
  | .hbm, ⟨26, _⟩ => ⟨S288, .i32⟩
  | .hbm, ⟨27, _⟩ => ⟨S_, .i32⟩
  | .hbm, ⟨28, _⟩ => ⟨S288, .i32⟩
  | .hbm, ⟨29, _⟩ => ⟨S288, .i1⟩
  | .hbm, ⟨30, _⟩ => ⟨S288, .i32⟩
  | .hbm, ⟨31, _⟩ => ⟨S288, .i32⟩
  | .hbm, ⟨32, _⟩ => ⟨S_, .i32⟩
  | .hbm, ⟨33, _⟩ => ⟨S288, .i32⟩
  | .hbm, ⟨34, _⟩ => ⟨S288, .i1⟩
  | .hbm, ⟨35, _⟩ => ⟨S288, .i1⟩
  | .hbm, ⟨36, _⟩ => ⟨S_, .i32⟩
  | .hbm, ⟨37, _⟩ => ⟨S288, .i32⟩
  | .hbm, ⟨38, _⟩ => ⟨S288, .i32⟩
  | .hbm, ⟨39, _⟩ => ⟨S288, .i32⟩
  | .hbm, ⟨40, _⟩ => ⟨S_, .i32⟩
  | .hbm, ⟨41, _⟩ => ⟨S288, .i32⟩
  | .hbm, ⟨42, _⟩ => ⟨S288, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S288, .i32⟩
  | .hbm, ⟨50, _⟩ => ⟨S288, .i32⟩
  | .hbm, ⟨51, _⟩ => ⟨S_, .i32⟩
  | .hbm, ⟨52, _⟩ => ⟨S288, .i32⟩
  | .hbm, ⟨53, _⟩ => ⟨S288, .i1⟩
  | .hbm, ⟨54, _⟩ => ⟨S_, .i32⟩
  | .hbm, ⟨55, _⟩ => ⟨S288, .i32⟩
  | .hbm, ⟨56, _⟩ => ⟨S288, .i1⟩
  | .hbm, ⟨57, _⟩ => ⟨S_, .i32⟩
  | .hbm, ⟨58, _⟩ => ⟨S_, .i1⟩
  | .hbm, ⟨59, _⟩ => ⟨S288, .i1⟩
  | .hbm, ⟨60, _⟩ => ⟨S288, .i1⟩
  | .hbm, ⟨61, _⟩ => ⟨S288, .i1⟩
  | .hbm, ⟨62, _⟩ => ⟨S288, .i32⟩
  | .hbm, ⟨63, _⟩ => ⟨S288, .i32⟩
  | .hbm, ⟨64, _⟩ => ⟨S288, .i32⟩
  | .hbm, ⟨65, _⟩ => ⟨S_, .i32⟩
  | .hbm, ⟨66, _⟩ => ⟨S288, .i32⟩
  | .hbm, ⟨67, _⟩ => ⟨S288, .i1⟩
  | .hbm, ⟨68, _⟩ => ⟨S_, .i32⟩
  | .hbm, ⟨69, _⟩ => ⟨S288, .i32⟩
  | .hbm, ⟨70, _⟩ => ⟨S288, .i32⟩
  | .hbm, ⟨71, _⟩ => ⟨S288, .i32⟩
  | .hbm, ⟨72, _⟩ => ⟨S288x1, .i32⟩
  | .hbm, ⟨73, _⟩ => ⟨S288, .i32⟩
  | .hbm, ⟨74, _⟩ => ⟨S288, .i32⟩
  | .hbm, ⟨75, _⟩ => ⟨S9x1x32, .i32⟩
  | .hbm, ⟨76, _⟩ => ⟨S144x64, .f32⟩
  | .hbm, ⟨77, _⟩ => ⟨S_, .f32⟩
  | .hbm, ⟨78, _⟩ => ⟨S_, .f32⟩
  | .hbm, ⟨79, _⟩ => ⟨S4x72x4, .f32⟩
  | .hbm, ⟨80, _⟩ => ⟨S_, .i32⟩
  | .hbm, ⟨81, _⟩ => ⟨S_, .f32⟩
  | .hbm, ⟨82, _⟩ => ⟨S4x72x1, .f32⟩
  | .hbm, ⟨83, _⟩ => ⟨S2x2x64x128, .f32⟩
  | .hbm, ⟨84, _⟩ => ⟨S4x64x128, .f32⟩
  | .hbm, ⟨85, _⟩ => ⟨S1x128, .f32⟩
  | .hbm, ⟨86, _⟩ => ⟨S2x2x128x128, .f32⟩
  | .hbm, ⟨87, _⟩ => ⟨S4x128x128, .f32⟩
  | .hbm, ⟨88, _⟩ => ⟨S1x128, .f32⟩
  | .hbm, ⟨89, _⟩ => ⟨S2x2x128x64, .f32⟩
  | .hbm, ⟨90, _⟩ => ⟨S4x128x64, .f32⟩
  | .hbm, ⟨91, _⟩ => ⟨S1x64, .f32⟩
  | .hbm, ⟨92, _⟩ => ⟨S2x2x64x64, .f32⟩
  | .hbm, ⟨93, _⟩ => ⟨S4x64x64, .f32⟩
  | .hbm, ⟨94, _⟩ => ⟨S1x64, .f32⟩
  | .hbm, ⟨95, _⟩ => ⟨S2x2x64x32, .f32⟩
  | .hbm, ⟨96, _⟩ => ⟨S4x64x32, .f32⟩
  | .hbm, ⟨97, _⟩ => ⟨S1x32, .f32⟩
  | .hbm, ⟨98, _⟩ => ⟨S2x2x32x3, .f32⟩
  | .hbm, ⟨99, _⟩ => ⟨S4x32x3, .f32⟩
  | .hbm, ⟨100, _⟩ => ⟨S1x3, .f32⟩
  | .hbm, ⟨101, _⟩ => ⟨S64x4x128, .f32⟩
  | .hbm, ⟨102, _⟩ => ⟨S64x512, .f32⟩
  | .hbm, ⟨103, _⟩ => ⟨S128x4x128, .f32⟩
  | .hbm, ⟨104, _⟩ => ⟨S128x512, .f32⟩
  | .hbm, ⟨105, _⟩ => ⟨S9x32x64x3x64, .f32⟩
  | .hbm, ⟨106, _⟩ => ⟨S4x72x64x192, .f32⟩
  | .hbm, ⟨107, _⟩ => ⟨S4x3x96x96, .f32⟩
  | .local _ .vmem, ⟨0, _⟩ => ⟨S1x1x32, .i32⟩
  | .local _ .vmem, ⟨1, _⟩ => ⟨S1x1x32, .i32⟩
  | .local _ .vmem, ⟨2, _⟩ => ⟨S144x64, .f32⟩
  | .local _ .vmem, ⟨3, _⟩ => ⟨S64x512, .f32⟩
  | .local _ .vmem, ⟨4, _⟩ => ⟨S1x128, .f32⟩
  | .local _ .vmem, ⟨5, _⟩ => ⟨S128x512, .f32⟩
  | .local _ .vmem, ⟨6, _⟩ => ⟨S1x128, .f32⟩
  | .local _ .vmem, ⟨7, _⟩ => ⟨S4x128x64, .f32⟩
  | .local _ .vmem, ⟨8, _⟩ => ⟨S1x64, .f32⟩
  | .local _ .vmem, ⟨9, _⟩ => ⟨S4x64x64, .f32⟩
  | .local _ .vmem, ⟨10, _⟩ => ⟨S1x64, .f32⟩
  | .local _ .vmem, ⟨11, _⟩ => ⟨S4x64x32, .f32⟩
  | .local _ .vmem, ⟨12, _⟩ => ⟨S1x32, .f32⟩
  | .local _ .vmem, ⟨13, _⟩ => ⟨S4x32x3, .f32⟩
  | .local _ .vmem, ⟨14, _⟩ => ⟨S1x3, .f32⟩
  | .local _ .vmem, ⟨15, _⟩ => ⟨S1x32x64x3x64, .f32⟩
  | .local _ .vmem, ⟨16, _⟩ => ⟨S1x32x64x3x64, .f32⟩
  | .local _ .vmem, ⟨17, _⟩ => ⟨S32x2x2x128, .f32⟩
  | .local _ .vmem, ⟨18, _⟩ => ⟨S32x4x4x128, .f32⟩
  | .local _ .vmem, ⟨19, _⟩ => ⟨S32x8x8x64, .f32⟩
  | .local _ .vmem, ⟨20, _⟩ => ⟨S32x16x16x64, .f32⟩
  | .local _ .vmem, ⟨21, _⟩ => ⟨S32x32x32x32, .f32⟩
  | .local _ .vmem, ⟨22, _⟩ => ⟨S1x1x72, .i32⟩
  | .local _ .vmem, ⟨23, _⟩ => ⟨S1x72x64x192, .f32⟩
  | .local _ .vmem, ⟨24, _⟩ => ⟨S1x72x64x192, .f32⟩
  | .local _ .vmem, ⟨25, _⟩ => ⟨S1x72x4, .f32⟩
  | .local _ .vmem, ⟨26, _⟩ => ⟨S1x72x4, .f32⟩
  | .local _ .vmem, ⟨27, _⟩ => ⟨S1x36x1, .f32⟩
  | .local _ .vmem, ⟨28, _⟩ => ⟨S1x36x1, .f32⟩
  | .local _ .vmem, ⟨29, _⟩ => ⟨S1x72x1, .f32⟩
  | .local _ .vmem, ⟨30, _⟩ => ⟨S1x72x1, .f32⟩
  | .local _ .vmem, ⟨31, _⟩ => ⟨S1x3x96x96, .f32⟩
  | .local _ .vmem, ⟨32, _⟩ => ⟨S1x3x96x96, .f32⟩
  | _, _ => ⟨S4x36x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_call0_v0 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_0 : Ref sig .tc := ⟨.hbm, 36, rfl⟩
abbrev main_call1_v12 : Ref sig .tc := ⟨.hbm, 37, rfl⟩
abbrev main_call1_v13 : Ref sig .tc := ⟨.hbm, 38, rfl⟩
abbrev main_v3 : Ref sig .tc := ⟨.hbm, 39, rfl⟩
abbrev main_c_1 : Ref sig .tc := ⟨.hbm, 40, rfl⟩
abbrev main_v4 : Ref sig .tc := ⟨.hbm, 41, rfl⟩
abbrev main_v5 : Ref sig .tc := ⟨.hbm, 42, rfl⟩
abbrev main_c_2 : Ref sig .tc := ⟨.hbm, 43, rfl⟩
abbrev main_call2_v0 : Ref sig .tc := ⟨.hbm, 44, rfl⟩
abbrev main_call2_c : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_c_1 : Ref sig .tc := ⟨.hbm, 51, rfl⟩
abbrev main_call2_v5 : Ref sig .tc := ⟨.hbm, 52, rfl⟩
abbrev main_call2_v6 : Ref sig .tc := ⟨.hbm, 53, rfl⟩
abbrev main_call2_c_2 : Ref sig .tc := ⟨.hbm, 54, rfl⟩
abbrev main_call2_v7 : Ref sig .tc := ⟨.hbm, 55, rfl⟩
abbrev main_call2_v8 : Ref sig .tc := ⟨.hbm, 56, rfl⟩
abbrev main_call2_c_3 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_v6 : Ref sig .tc := ⟨.hbm, 64, rfl⟩
abbrev main_c_3 : Ref sig .tc := ⟨.hbm, 65, rfl⟩
abbrev main_v7 : Ref sig .tc := ⟨.hbm, 66, rfl⟩
abbrev main_v8 : Ref sig .tc := ⟨.hbm, 67, rfl⟩
abbrev main_c_4 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_cst : Ref sig .tc := ⟨.hbm, 77, rfl⟩
abbrev main_call3_v0 : Ref sig .tc := ⟨.hbm, 78, rfl⟩
abbrev main_v17 : Ref sig .tc := ⟨.hbm, 79, rfl⟩
abbrev main_c_5 : Ref sig .tc := ⟨.hbm, 80, rfl⟩
abbrev main_call4_v0 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc1_stg0_0 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc1_stg4_0 : Ref sig .tc := ⟨.vmem, 29, rfl⟩
abbrev cc1_stg4_1 : Ref sig .tc := ⟨.vmem, 30, rfl⟩
abbrev cc1_stg5_0 : Ref sig .tc := ⟨.vmem, 31, rfl⟩
abbrev cc1_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc1_sem0_0 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x1x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S144x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x64x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x32x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x3 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x32x64x3x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨2, ![4, 1], ![false, false]⟩

def k1_cond1 (i : grid1.Coords) : BitVec 1 :=
  let arg1 : BitVec 32 := BitVec.ofNat 32 (i 1).val
  let c0_i32 : BitVec 32 := 0#32
  let v145 : BitVec 1 := Scalar.cmpi .eq arg1 c0_i32
  let v146 : BitVec 32 := Scalar.extui v145
  let c0_i32_53 : BitVec 32 := 0#32
  let v147 : BitVec 1 := Scalar.cmpi .ne v146 c0_i32_53
  v147

def k1_cond2 (i : grid1.Coords) : BitVec 1 :=
  let arg1 : BitVec 32 := BitVec.ofNat 32 (i 1).val
  let c0_i32_54 : BitVec 32 := 0#32
  let v148 : BitVec 1 := Scalar.cmpi .ne arg1 c0_i32_54
  let v149 : BitVec 32 := Scalar.extui v148
  let c0_i32_55 : BitVec 32 := 0#32
  let v150 : BitVec 1 := Scalar.cmpi .ne v149 c0_i32_55
  v150

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .vmem S1x1x72 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x72x64x192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x72x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x36x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x72x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x3x96x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== ReferenceIdeal.lean ====
abbrev S4x36x64 : Shape := ⟨3, ![4, 36, 64]⟩
abbrev S4x71x4 : Shape := ⟨3, ![4, 71, 4]⟩
abbrev S4x71x1 : Shape := ⟨3, ![4, 71, 1]⟩
abbrev S4x36x1 : Shape := ⟨3, ![4, 36, 1]⟩
abbrev S71 : Shape := ⟨1, ![71]⟩
abbrev S64x128x2x2 : Shape := ⟨4, ![64, 128, 2, 2]⟩
abbrev S128 : Shape := ⟨1, ![128]⟩
abbrev S128x128x2x2 : Shape := ⟨4, ![128, 128, 2, 2]⟩
abbrev S128x64x2x2 : Shape := ⟨4, ![128, 64, 2, 2]⟩
abbrev S64 : Shape := ⟨1, ![64]⟩
abbrev S64x64x2x2 : Shape := ⟨4, ![64, 64, 2, 2]⟩
abbrev S64x32x2x2 : Shape := ⟨4, ![64, 32, 2, 2]⟩
abbrev S32 : Shape := ⟨1, ![32]⟩
abbrev S32x3x2x2 : Shape := ⟨4, ![32, 3, 2, 2]⟩
abbrev S3 : Shape := ⟨1, ![3]⟩
abbrev S_ : Shape := ⟨0, ![]⟩
abbrev S71x1 : Shape := ⟨2, ![71, 1]⟩
abbrev S1 : Shape := ⟨1, ![1]⟩
abbrev S1x1 : Shape := ⟨2, ![1, 1]⟩
abbrev S4x71x64 : Shape := ⟨3, ![4, 71, 64]⟩
abbrev S284x64 : Shape := ⟨2, ![284, 64]⟩
abbrev S284x64x1x1 : Shape := ⟨4, ![284, 64, 1, 1]⟩
abbrev S128x2x2x284x1x1 : Shape := ⟨6, ![128, 2, 2, 284, 1, 1]⟩
abbrev S284x128x1x2x1x2 : Shape := ⟨6, ![284, 128, 1, 2, 1, 2]⟩
abbrev S284x128x2x2 : Shape := ⟨4, ![284, 128, 2, 2]⟩
abbrev S1x128x1x1 : Shape := ⟨4, ![1, 128, 1, 1]⟩
abbrev S128x2x2x284x2x2 : Shape := ⟨6, ![128, 2, 2, 284, 2, 2]⟩
abbrev S284x128x2x2x2x2 : Shape := ⟨6, ![284, 128, 2, 2, 2, 2]⟩
abbrev S284x128x4x4 : Shape := ⟨4, ![284, 128, 4, 4]⟩
abbrev S64x2x2x284x4x4 : Shape := ⟨6, ![64, 2, 2, 284, 4, 4]⟩
abbrev S284x64x4x2x4x2 : Shape := ⟨6, ![284, 64, 4, 2, 4, 2]⟩
abbrev S284x64x8x8 : Shape := ⟨4, ![284, 64, 8, 8]⟩
abbrev S1x64x1x1 : Shape := ⟨4, ![1, 64, 1, 1]⟩
abbrev S64x2x2x284x8x8 : Shape := ⟨6, ![64, 2, 2, 284, 8, 8]⟩
abbrev S284x64x8x2x8x2 : Shape := ⟨6, ![284, 64, 8, 2, 8, 2]⟩
abbrev S284x64x16x16 : Shape := ⟨4, ![284, 64, 16, 16]⟩
abbrev S32x2x2x284x16x16 : Shape := ⟨6, ![32, 2, 2, 284, 16, 16]⟩
abbrev S284x32x16x2x16x2 : Shape := ⟨6, ![284, 32, 16, 2, 16, 2]⟩
abbrev S284x32x32x32 : Shape := ⟨4, ![284, 32, 32, 32]⟩
abbrev S1x32x1x1 : Shape := ⟨4, ![1, 32, 1, 1]⟩
abbrev S3x2x2x284x32x32 : Shape := ⟨6, ![3, 2, 2, 284, 32, 32]⟩
abbrev S284x3x32x2x32x2 : Shape := ⟨6, ![284, 3, 32, 2, 32, 2]⟩
abbrev S284x3x64x64 : Shape := ⟨4, ![284, 3, 64, 64]⟩
abbrev S1x3x1x1 : Shape := ⟨4, ![1, 3, 1, 1]⟩
abbrev S284x4 : Shape := ⟨2, ![284, 4]⟩
abbrev S284x1 : Shape := ⟨2, ![284, 1]⟩
abbrev S284 : Shape := ⟨1, ![284]⟩
abbrev S96 : Shape := ⟨1, ![96]⟩
abbrev S1x1x96 : Shape := ⟨3, ![1, 1, 96]⟩
abbrev S284x1x1 : Shape := ⟨3, ![284, 1, 1]⟩
abbrev S284x1x96 : Shape := ⟨3, ![284, 1, 96]⟩
abbrev S1x96x1 : Shape := ⟨3, ![1, 96, 1]⟩
abbrev S284x96x1 : Shape := ⟨3, ![284, 96, 1]⟩
abbrev S284x96x96 : Shape := ⟨3, ![284, 96, 96]⟩
abbrev S284x96x96x1 : Shape := ⟨4, ![284, 96, 96, 1]⟩
abbrev S284x96x96x3 : Shape := ⟨4, ![284, 96, 96, 3]⟩
abbrev S284x3x96x96 : Shape := ⟨4, ![284, 3, 96, 96]⟩
abbrev S4x71x3x96x96 : Shape := ⟨5, ![4, 71, 3, 96, 96]⟩
abbrev S4x1 : Shape := ⟨2, ![4, 1]⟩
abbrev S4x1x1 : Shape := ⟨3, ![4, 1, 1]⟩
abbrev S4x71x1x1x1 : Shape := ⟨5, ![4, 71, 1, 1, 1]⟩
abbrev S4x3x96x96 : Shape := ⟨4, ![4, 3, 96, 96]⟩

abbrev nBuf : Space → Nat
  | .hbm => 542
  | .vmem => 0
  | .smem => 0
  | _ => 0

abbrev hbmTy0_0 (i : Nat) : BufTy := match i % 128 with
  | 0 => ⟨S4x36x64, .f32⟩
  | 1 => ⟨S4x71x4, .f32⟩
  | 2 => ⟨S4x71x1, .f32⟩
  | 3 => ⟨S4x36x1, .f32⟩
  | 4 => ⟨S71, .i32⟩
  | 5 => ⟨S64x128x2x2, .f32⟩
  | 6 => ⟨S128, .f32⟩
  | 7 => ⟨S128x128x2x2, .f32⟩
  | 8 => ⟨S128, .f32⟩
  | 9 => ⟨S128x64x2x2, .f32⟩
  | 10 => ⟨S64, .f32⟩
  | 11 => ⟨S64x64x2x2, .f32⟩
  | 12 => ⟨S64, .f32⟩
  | 13 => ⟨S64x32x2x2, .f32⟩
  | 14 => ⟨S32, .f32⟩
  | 15 => ⟨S32x3x2x2, .f32⟩
  | 16 => ⟨S3, .f32⟩
  | 17 => ⟨S_, .i32⟩
  | 18 => ⟨S71, .i32⟩
  | 19 => ⟨S71, .i1⟩
  | 20 => ⟨S_, .i32⟩
  | 21 => ⟨S71, .i32⟩
  | 22 => ⟨S71, .i32⟩
  | 23 => ⟨S71, .i32⟩
  | 24 => ⟨S71x1, .i32⟩
  | 25 => ⟨S1, .i32⟩
  | 26 => ⟨S_, .i32⟩
  | 27 => ⟨S71x1, .i32⟩
  | 28 => ⟨S71x1, .i1⟩
  | 29 => ⟨S1x1, .i32⟩
  | 30 => ⟨S71x1, .i32⟩
  | 31 => ⟨S71x1, .i1⟩
  | 32 => ⟨S71x1, .i1⟩
  | 33 => ⟨S_, .i1⟩
  | 34 => ⟨S71, .i1⟩
  | 35 => ⟨S4x71x64, .f32⟩
  | 36 => ⟨S4x71x64, .i1⟩
  | 37 => ⟨S_, .f32⟩
  | 38 => ⟨S4x71x64, .f32⟩
  | 39 => ⟨S4x71x64, .f32⟩
  | 40 => ⟨S_, .i32⟩
  | 41 => ⟨S71, .i32⟩
  | 42 => ⟨S71, .i1⟩
  | 43 => ⟨S_, .i32⟩
  | 44 => ⟨S71, .i32⟩
  | 45 => ⟨S71, .i32⟩
  | 46 => ⟨S71, .i32⟩
  | 47 => ⟨S71x1, .i32⟩
  | 48 => ⟨S1, .i32⟩
  | 49 => ⟨S_, .i32⟩
  | 50 => ⟨S71x1, .i32⟩
  | 51 => ⟨S71x1, .i1⟩
  | 52 => ⟨S1x1, .i32⟩
  | 53 => ⟨S71x1, .i32⟩
  | 54 => ⟨S71x1, .i1⟩
  | 55 => ⟨S71x1, .i1⟩
  | 56 => ⟨S_, .i1⟩
  | 57 => ⟨S71, .i1⟩
  | 58 => ⟨S4x71x1, .f32⟩
  | 59 => ⟨S4x71x1, .i1⟩
  | 60 => ⟨S_, .f32⟩
  | 61 => ⟨S4x71x1, .f32⟩
  | 62 => ⟨S4x71x1, .f32⟩
  | 63 => ⟨S284x64, .f32⟩
  | 64 => ⟨S284x64x1x1, .f32⟩
  | 65 => ⟨S128x2x2x284x1x1, .f32⟩
  | 66 => ⟨S284x128x1x2x1x2, .f32⟩
  | 67 => ⟨S284x128x2x2, .f32⟩
  | 68 => ⟨S1x128x1x1, .f32⟩
  | 69 => ⟨S284x128x2x2, .f32⟩
  | 70 => ⟨S284x128x2x2, .f32⟩
  | 71 => ⟨S_, .f32⟩
  | 72 => ⟨S284x128x2x2, .f32⟩
  | 73 => ⟨S284x128x2x2, .f32⟩
  | 74 => ⟨S128x2x2x284x2x2, .f32⟩
  | 75 => ⟨S284x128x2x2x2x2, .f32⟩
  | 76 => ⟨S284x128x4x4, .f32⟩
  | 77 => ⟨S1x128x1x1, .f32⟩
  | 78 => ⟨S284x128x4x4, .f32⟩
  | 79 => ⟨S284x128x4x4, .f32⟩
  | 80 => ⟨S_, .f32⟩
  | 81 => ⟨S284x128x4x4, .f32⟩
  | 82 => ⟨S284x128x4x4, .f32⟩
  | 83 => ⟨S64x2x2x284x4x4, .f32⟩
  | 84 => ⟨S284x64x4x2x4x2, .f32⟩
  | 85 => ⟨S284x64x8x8, .f32⟩
  | 86 => ⟨S1x64x1x1, .f32⟩
  | 87 => ⟨S284x64x8x8, .f32⟩
  | 88 => ⟨S284x64x8x8, .f32⟩
  | 89 => ⟨S_, .f32⟩
  | 90 => ⟨S284x64x8x8, .f32⟩
  | 91 => ⟨S284x64x8x8, .f32⟩
  | 92 => ⟨S64x2x2x284x8x8, .f32⟩
  | 93 => ⟨S284x64x8x2x8x2, .f32⟩
  | 94 => ⟨S284x64x16x16, .f32⟩
  | 95 => ⟨S1x64x1x1, .f32⟩
  | 96 => ⟨S284x64x16x16, .f32⟩
  | 97 => ⟨S284x64x16x16, .f32⟩
  | 98 => ⟨S_, .f32⟩
  | 99 => ⟨S284x64x16x16, .f32⟩
  | 100 => ⟨S284x64x16x16, .f32⟩
  | 101 => ⟨S32x2x2x284x16x16, .f32⟩
  | 102 => ⟨S284x32x16x2x16x2, .f32⟩
  | 103 => ⟨S284x32x32x32, .f32⟩
  | 104 => ⟨S1x32x1x1, .f32⟩
  | 105 => ⟨S284x32x32x32, .f32⟩
  | 106 => ⟨S284x32x32x32, .f32⟩
  | 107 => ⟨S_, .f32⟩
  | 108 => ⟨S284x32x32x32, .f32⟩
  | 109 => ⟨S284x32x32x32, .f32⟩
  | 110 => ⟨S3x2x2x284x32x32, .f32⟩
  | 111 => ⟨S284x3x32x2x32x2, .f32⟩
  | 112 => ⟨S284x3x64x64, .f32⟩
  | 113 => ⟨S1x3x1x1, .f32⟩
  | 114 => ⟨S284x3x64x64, .f32⟩
  | 115 => ⟨S284x3x64x64, .f32⟩
  | 116 => ⟨S284x3x64x64, .f32⟩
  | 117 => ⟨S284x3x64x64, .f32⟩
  | 118 => ⟨S_, .f32⟩
  | 119 => ⟨S284x3x64x64, .f32⟩
  | 120 => ⟨S284x3x64x64, .f32⟩
  | 121 => ⟨S_, .f32⟩
  | 122 => ⟨S284x3x64x64, .f32⟩
  | 123 => ⟨S284x3x64x64, .f32⟩
  | 124 => ⟨S284x4, .f32⟩
  | 125 => ⟨S284x1, .f32⟩
  | 126 => ⟨S284, .f32⟩
  | 127 => ⟨S284x1, .f32⟩
  | _ => ⟨S4x36x64, .f32⟩

abbrev hbmTy0_1 (i : Nat) : BufTy := match i % 128 with
  | 0 => ⟨S284, .f32⟩
  | 1 => ⟨S284x1, .f32⟩
  | 2 => ⟨S284, .f32⟩
  | 3 => ⟨S284x1, .f32⟩
  | 4 => ⟨S284, .f32⟩
  | 5 => ⟨S_, .f32⟩
  | 6 => ⟨S284, .f32⟩
  | 7 => ⟨S284, .f32⟩
  | 8 => ⟨S_, .f32⟩
  | 9 => ⟨S284, .f32⟩
  | 10 => ⟨S284, .f32⟩
  | 11 => ⟨S_, .f32⟩
  | 12 => ⟨S284, .f32⟩
  | 13 => ⟨S284, .f32⟩
  | 14 => ⟨S_, .f32⟩
  | 15 => ⟨S284, .f32⟩
  | 16 => ⟨S284, .f32⟩
  | 17 => ⟨S_, .f32⟩
  | 18 => ⟨S284, .f32⟩
  | 19 => ⟨S284, .f32⟩
  | 20 => ⟨S_, .f32⟩
  | 21 => ⟨S284, .f32⟩
  | 22 => ⟨S284, .f32⟩
  | 23 => ⟨S284, .f32⟩
  | 24 => ⟨S_, .f32⟩
  | 25 => ⟨S284, .f32⟩
  | 26 => ⟨S284, .f32⟩
  | 27 => ⟨S_, .f32⟩
  | 28 => ⟨S284, .f32⟩
  | 29 => ⟨S284, .f32⟩
  | 30 => ⟨S284, .f32⟩
  | 31 => ⟨S96, .f32⟩
  | 32 => ⟨S_, .f32⟩
  | 33 => ⟨S96, .f32⟩
  | 34 => ⟨S96, .f32⟩
  | 35 => ⟨S_, .f32⟩
  | 36 => ⟨S96, .f32⟩
  | 37 => ⟨S96, .f32⟩
  | 38 => ⟨S_, .f32⟩
  | 39 => ⟨S96, .f32⟩
  | 40 => ⟨S96, .f32⟩
  | 41 => ⟨S_, .f32⟩
  | 42 => ⟨S96, .f32⟩
  | 43 => ⟨S96, .f32⟩
  | 44 => ⟨S1x1x96, .f32⟩
  | 45 => ⟨S284x1x1, .f32⟩
  | 46 => ⟨S284x1x96, .f32⟩
  | 47 => ⟨S284x1x96, .f32⟩
  | 48 => ⟨S284x1x96, .f32⟩
  | 49 => ⟨S284x1x1, .f32⟩
  | 50 => ⟨S284x1x96, .f32⟩
  | 51 => ⟨S284x1x96, .f32⟩
  | 52 => ⟨S1x96x1, .f32⟩
  | 53 => ⟨S284x1x1, .f32⟩
  | 54 => ⟨S284x96x1, .f32⟩
  | 55 => ⟨S284x96x1, .f32⟩
  | 56 => ⟨S284x96x1, .f32⟩
  | 57 => ⟨S284x1x1, .f32⟩
  | 58 => ⟨S284x96x1, .f32⟩
  | 59 => ⟨S284x96x1, .f32⟩
  | 60 => ⟨S284x96x96, .f32⟩
  | 61 => ⟨S284x96x96, .f32⟩
  | 62 => ⟨S_, .f32⟩
  | 63 => ⟨S284x96x96, .f32⟩
  | 64 => ⟨S284x96x96, .f32⟩
  | 65 => ⟨S_, .f32⟩
  | 66 => ⟨S284x96x96, .f32⟩
  | 67 => ⟨S284x96x96, .f32⟩
  | 68 => ⟨S_, .f32⟩
  | 69 => ⟨S284x96x96, .f32⟩
  | 70 => ⟨S284x96x96, .f32⟩
  | 71 => ⟨S_, .f32⟩
  | 72 => ⟨S284x96x96, .f32⟩
  | 73 => ⟨S284x96x96, .f32⟩
  | 74 => ⟨S_, .f32⟩
  | 75 => ⟨S284x96x96, .f32⟩
  | 76 => ⟨S284x96x96, .f32⟩
  | 77 => ⟨S_, .f32⟩
  | 78 => ⟨S284x96x96, .f32⟩
  | 79 => ⟨S284x96x96, .f32⟩
  | 80 => ⟨S_, .f32⟩
  | 81 => ⟨S284x96x96, .f32⟩
  | 82 => ⟨S284x96x96, .f32⟩
  | 83 => ⟨S_, .f32⟩
  | 84 => ⟨S284x96x96, .f32⟩
  | 85 => ⟨S284x96x96, .f32⟩
  | 86 => ⟨S284x96x96, .f32⟩
  | 87 => ⟨S284x96x96, .f32⟩
  | 88 => ⟨S_, .f32⟩
  | 89 => ⟨S284x96x96, .f32⟩
  | 90 => ⟨S284x96x96, .f32⟩
  | 91 => ⟨S_, .f32⟩
  | 92 => ⟨S284x96x96, .f32⟩
  | 93 => ⟨S284x96x96, .f32⟩
  | 94 => ⟨S284x96x96, .f32⟩
  | 95 => ⟨S_, .f32⟩
  | 96 => ⟨S284x96x96, .f32⟩
  | 97 => ⟨S284x96x96, .f32⟩
  | 98 => ⟨S284x96x96, .f32⟩
  | 99 => ⟨S_, .f32⟩
  | 100 => ⟨S284x96x96, .f32⟩
  | 101 => ⟨S284x96x96, .f32⟩
  | 102 => ⟨S284, .i32⟩
  | 103 => ⟨S284x1x1, .i32⟩
  | 104 => ⟨S_, .f32⟩
  | 105 => ⟨S284x96x96, .f32⟩
  | 106 => ⟨S284x96x96, .i1⟩
  | 107 => ⟨S_, .f32⟩
  | 108 => ⟨S284x96x96, .f32⟩
  | 109 => ⟨S284x96x96, .i1⟩
  | 110 => ⟨S284x96x96, .i1⟩
  | 111 => ⟨S_, .f32⟩
  | 112 => ⟨S284x96x96, .f32⟩
  | 113 => ⟨S284x96x96, .i1⟩
  | 114 => ⟨S284x96x96, .i1⟩
  | 115 => ⟨S_, .f32⟩
  | 116 => ⟨S284x96x96, .f32⟩
  | 117 => ⟨S284x96x96, .i1⟩
  | 118 => ⟨S284x96x96, .i1⟩
  | 119 => ⟨S_, .i32⟩
  | 120 => ⟨S_, .i32⟩
  | 121 => ⟨S_, .f32⟩
  | 122 => ⟨S284x96x96, .f32⟩
  | 123 => ⟨S284x96x96, .f32⟩
  | 124 => ⟨S_, .f32⟩
  | 125 => ⟨S284x96x96, .f32⟩
  | 126 => ⟨S284x96x96, .f32⟩
  | 127 => ⟨S284x96x96, .i32⟩
  | _ => ⟨S4x36x64, .f32⟩

abbrev hbmTy0_2 (i : Nat) : BufTy := match i % 128 with
  | 0 => ⟨S_, .i32⟩
  | 1 => ⟨S_, .i32⟩
  | 2 => ⟨S_, .f32⟩
  | 3 => ⟨S284x96x96, .f32⟩
  | 4 => ⟨S284x96x96, .f32⟩
  | 5 => ⟨S_, .f32⟩
  | 6 => ⟨S284x96x96, .f32⟩
  | 7 => ⟨S284x96x96, .f32⟩
  | 8 => ⟨S284x96x96, .i32⟩
  | 9 => ⟨S_, .i32⟩
  | 10 => ⟨S284x1x1, .i32⟩
  | 11 => ⟨S284x1x1, .i1⟩
  | 12 => ⟨S_, .i32⟩
  | 13 => ⟨S284x1x1, .i32⟩
  | 14 => ⟨S284x1x1, .i32⟩
  | 15 => ⟨S284x1x1, .i32⟩
  | 16 => ⟨S_, .i32⟩
  | 17 => ⟨S284x96x96, .i32⟩
  | 18 => ⟨S284x96x96, .i1⟩
  | 19 => ⟨S_, .i32⟩
  | 20 => ⟨S284x96x96, .i32⟩
  | 21 => ⟨S284x96x96, .i32⟩
  | 22 => ⟨S284x96x96, .i32⟩
  | 23 => ⟨S_, .i32⟩
  | 24 => ⟨S284x96x96, .i32⟩
  | 25 => ⟨S284x96x96, .i1⟩
  | 26 => ⟨S_, .i32⟩
  | 27 => ⟨S284x96x96, .i32⟩
  | 28 => ⟨S284x96x96, .i32⟩
  | 29 => ⟨S284x96x96, .i32⟩
  | 30 => ⟨S284x96x96, .i32⟩
  | 31 => ⟨S284x96x96x1, .i32⟩
  | 32 => ⟨S284x96x96x1, .i32⟩
  | 33 => ⟨S284x96x96x1, .i32⟩
  | 34 => ⟨S284x96x96x3, .i32⟩
  | 35 => ⟨S284x96x96x3, .f32⟩
  | 36 => ⟨S284x96x96x1, .i1⟩
  | 37 => ⟨S_, .f32⟩
  | 38 => ⟨S_, .f32⟩
  | 39 => ⟨S284x96x96x3, .i1⟩
  | 40 => ⟨S284x96x96x3, .f32⟩
  | 41 => ⟨S284x96x96x3, .f32⟩
  | 42 => ⟨S284x96x96, .f32⟩
  | 43 => ⟨S284x96x96x1, .f32⟩
  | 44 => ⟨S284x96x96x3, .f32⟩
  | 45 => ⟨S284x96x96x3, .f32⟩
  | 46 => ⟨S_, .f32⟩
  | 47 => ⟨S284x96x96, .f32⟩
  | 48 => ⟨S284x96x96, .i1⟩
  | 49 => ⟨S_, .f32⟩
  | 50 => ⟨S284x96x96, .f32⟩
  | 51 => ⟨S284x96x96, .i1⟩
  | 52 => ⟨S284x96x96, .i1⟩
  | 53 => ⟨S_, .f32⟩
  | 54 => ⟨S284x96x96, .f32⟩
  | 55 => ⟨S284x96x96, .i1⟩
  | 56 => ⟨S284x96x96, .i1⟩
  | 57 => ⟨S_, .f32⟩
  | 58 => ⟨S284x96x96, .f32⟩
  | 59 => ⟨S284x96x96, .i1⟩
  | 60 => ⟨S284x96x96, .i1⟩
  | 61 => ⟨S_, .i32⟩
  | 62 => ⟨S_, .i32⟩
  | 63 => ⟨S_, .f32⟩
  | 64 => ⟨S284x96x96, .f32⟩
  | 65 => ⟨S284x96x96, .f32⟩
  | 66 => ⟨S_, .f32⟩
  | 67 => ⟨S284x96x96, .f32⟩
  | 68 => ⟨S284x96x96, .f32⟩
  | 69 => ⟨S284x96x96, .i32⟩
  | 70 => ⟨S_, .i32⟩
  | 71 => ⟨S_, .i32⟩
  | 72 => ⟨S_, .f32⟩
  | 73 => ⟨S284x96x96, .f32⟩
  | 74 => ⟨S284x96x96, .f32⟩
  | 75 => ⟨S_, .f32⟩
  | 76 => ⟨S284x96x96, .f32⟩
  | 77 => ⟨S284x96x96, .f32⟩
  | 78 => ⟨S284x96x96, .i32⟩
  | 79 => ⟨S_, .i32⟩
  | 80 => ⟨S284x1x1, .i32⟩
  | 81 => ⟨S284x1x1, .i1⟩
  | 82 => ⟨S_, .i32⟩
  | 83 => ⟨S284x1x1, .i32⟩
  | 84 => ⟨S284x1x1, .i32⟩
  | 85 => ⟨S284x1x1, .i32⟩
  | 86 => ⟨S_, .i32⟩
  | 87 => ⟨S284x96x96, .i32⟩
  | 88 => ⟨S284x96x96, .i1⟩
  | 89 => ⟨S_, .i32⟩
  | 90 => ⟨S284x96x96, .i32⟩
  | 91 => ⟨S284x96x96, .i32⟩
  | 92 => ⟨S284x96x96, .i32⟩
  | 93 => ⟨S_, .i32⟩
  | 94 => ⟨S284x96x96, .i32⟩
  | 95 => ⟨S284x96x96, .i1⟩
  | 96 => ⟨S_, .i32⟩
  | 97 => ⟨S284x96x96, .i32⟩
  | 98 => ⟨S284x96x96, .i32⟩
  | 99 => ⟨S284x96x96, .i32⟩
  | 100 => ⟨S284x96x96, .i32⟩
  | 101 => ⟨S284x96x96x1, .i32⟩
  | 102 => ⟨S284x96x96x1, .i32⟩
  | 103 => ⟨S284x96x96x1, .i32⟩
  | 104 => ⟨S284x96x96x3, .i32⟩
  | 105 => ⟨S284x96x96x3, .f32⟩
  | 106 => ⟨S284x96x96x1, .i1⟩
  | 107 => ⟨S_, .f32⟩
  | 108 => ⟨S_, .f32⟩
  | 109 => ⟨S284x96x96x3, .i1⟩
  | 110 => ⟨S284x96x96x3, .f32⟩
  | 111 => ⟨S284x96x96x3, .f32⟩
  | 112 => ⟨S284x96x96, .f32⟩
  | 113 => ⟨S284x96x96x1, .f32⟩
  | 114 => ⟨S284x96x96x3, .f32⟩
  | 115 => ⟨S284x96x96x3, .f32⟩
  | 116 => ⟨S284x96x96x3, .f32⟩
  | 117 => ⟨S_, .f32⟩
  | 118 => ⟨S284x96x96, .f32⟩
  | 119 => ⟨S284x96x96, .i1⟩
  | 120 => ⟨S_, .f32⟩
  | 121 => ⟨S284x96x96, .f32⟩
  | 122 => ⟨S284x96x96, .i1⟩
  | 123 => ⟨S284x96x96, .i1⟩
  | 124 => ⟨S_, .f32⟩
  | 125 => ⟨S284x96x96, .f32⟩
  | 126 => ⟨S284x96x96, .i1⟩
  | 127 => ⟨S284x96x96, .i1⟩
  | _ => ⟨S4x36x64, .f32⟩

abbrev hbmTy0_3 (i : Nat) : BufTy := match i % 128 with
  | 0 => ⟨S_, .f32⟩
  | 1 => ⟨S284x96x96, .f32⟩
  | 2 => ⟨S284x96x96, .i1⟩
  | 3 => ⟨S284x96x96, .i1⟩
  | 4 => ⟨S_, .i32⟩
  | 5 => ⟨S_, .i32⟩
  | 6 => ⟨S_, .f32⟩
  | 7 => ⟨S284x96x96, .f32⟩
  | 8 => ⟨S284x96x96, .f32⟩
  | 9 => ⟨S_, .f32⟩
  | 10 => ⟨S284x96x96, .f32⟩
  | 11 => ⟨S284x96x96, .f32⟩
  | 12 => ⟨S284x96x96, .i32⟩
  | 13 => ⟨S_, .i32⟩
  | 14 => ⟨S_, .i32⟩
  | 15 => ⟨S_, .f32⟩
  | 16 => ⟨S284x96x96, .f32⟩
  | 17 => ⟨S284x96x96, .f32⟩
  | 18 => ⟨S_, .f32⟩
  | 19 => ⟨S284x96x96, .f32⟩
  | 20 => ⟨S284x96x96, .f32⟩
  | 21 => ⟨S284x96x96, .i32⟩
  | 22 => ⟨S_, .i32⟩
  | 23 => ⟨S284x1x1, .i32⟩
  | 24 => ⟨S284x1x1, .i1⟩
  | 25 => ⟨S_, .i32⟩
  | 26 => ⟨S284x1x1, .i32⟩
  | 27 => ⟨S284x1x1, .i32⟩
  | 28 => ⟨S284x1x1, .i32⟩
  | 29 => ⟨S_, .i32⟩
  | 30 => ⟨S284x96x96, .i32⟩
  | 31 => ⟨S284x96x96, .i1⟩
  | 32 => ⟨S_, .i32⟩
  | 33 => ⟨S284x96x96, .i32⟩
  | 34 => ⟨S284x96x96, .i32⟩
  | 35 => ⟨S284x96x96, .i32⟩
  | 36 => ⟨S_, .i32⟩
  | 37 => ⟨S284x96x96, .i32⟩
  | 38 => ⟨S284x96x96, .i1⟩
  | 39 => ⟨S_, .i32⟩
  | 40 => ⟨S284x96x96, .i32⟩
  | 41 => ⟨S284x96x96, .i32⟩
  | 42 => ⟨S284x96x96, .i32⟩
  | 43 => ⟨S284x96x96, .i32⟩
  | 44 => ⟨S284x96x96x1, .i32⟩
  | 45 => ⟨S284x96x96x1, .i32⟩
  | 46 => ⟨S284x96x96x1, .i32⟩
  | 47 => ⟨S284x96x96x3, .i32⟩
  | 48 => ⟨S284x96x96x3, .f32⟩
  | 49 => ⟨S284x96x96x1, .i1⟩
  | 50 => ⟨S_, .f32⟩
  | 51 => ⟨S_, .f32⟩
  | 52 => ⟨S284x96x96x3, .i1⟩
  | 53 => ⟨S284x96x96x3, .f32⟩
  | 54 => ⟨S284x96x96x3, .f32⟩
  | 55 => ⟨S284x96x96, .f32⟩
  | 56 => ⟨S284x96x96x1, .f32⟩
  | 57 => ⟨S284x96x96x3, .f32⟩
  | 58 => ⟨S284x96x96x3, .f32⟩
  | 59 => ⟨S284x96x96x3, .f32⟩
  | 60 => ⟨S_, .f32⟩
  | 61 => ⟨S284x96x96, .f32⟩
  | 62 => ⟨S284x96x96, .i1⟩
  | 63 => ⟨S_, .f32⟩
  | 64 => ⟨S284x96x96, .f32⟩
  | 65 => ⟨S284x96x96, .i1⟩
  | 66 => ⟨S284x96x96, .i1⟩
  | 67 => ⟨S_, .f32⟩
  | 68 => ⟨S284x96x96, .f32⟩
  | 69 => ⟨S284x96x96, .i1⟩
  | 70 => ⟨S284x96x96, .i1⟩
  | 71 => ⟨S_, .f32⟩
  | 72 => ⟨S284x96x96, .f32⟩
  | 73 => ⟨S284x96x96, .i1⟩
  | 74 => ⟨S284x96x96, .i1⟩
  | 75 => ⟨S_, .i32⟩
  | 76 => ⟨S_, .i32⟩
  | 77 => ⟨S_, .f32⟩
  | 78 => ⟨S284x96x96, .f32⟩
  | 79 => ⟨S284x96x96, .f32⟩
  | 80 => ⟨S_, .f32⟩
  | 81 => ⟨S284x96x96, .f32⟩
  | 82 => ⟨S284x96x96, .f32⟩
  | 83 => ⟨S284x96x96, .i32⟩
  | 84 => ⟨S_, .i32⟩
  | 85 => ⟨S_, .i32⟩
  | 86 => ⟨S_, .f32⟩
  | 87 => ⟨S284x96x96, .f32⟩
  | 88 => ⟨S284x96x96, .f32⟩
  | 89 => ⟨S_, .f32⟩
  | 90 => ⟨S284x96x96, .f32⟩
  | 91 => ⟨S284x96x96, .f32⟩
  | 92 => ⟨S284x96x96, .i32⟩
  | 93 => ⟨S_, .i32⟩
  | 94 => ⟨S284x1x1, .i32⟩
  | 95 => ⟨S284x1x1, .i1⟩
  | 96 => ⟨S_, .i32⟩
  | 97 => ⟨S284x1x1, .i32⟩
  | 98 => ⟨S284x1x1, .i32⟩
  | 99 => ⟨S284x1x1, .i32⟩
  | 100 => ⟨S_, .i32⟩
  | 101 => ⟨S284x96x96, .i32⟩
  | 102 => ⟨S284x96x96, .i1⟩
  | 103 => ⟨S_, .i32⟩
  | 104 => ⟨S284x96x96, .i32⟩
  | 105 => ⟨S284x96x96, .i32⟩
  | 106 => ⟨S284x96x96, .i32⟩
  | 107 => ⟨S_, .i32⟩
  | 108 => ⟨S284x96x96, .i32⟩
  | 109 => ⟨S284x96x96, .i1⟩
  | 110 => ⟨S_, .i32⟩
  | 111 => ⟨S284x96x96, .i32⟩
  | 112 => ⟨S284x96x96, .i32⟩
  | 113 => ⟨S284x96x96, .i32⟩
  | 114 => ⟨S284x96x96, .i32⟩
  | 115 => ⟨S284x96x96x1, .i32⟩
  | 116 => ⟨S284x96x96x1, .i32⟩
  | 117 => ⟨S284x96x96x1, .i32⟩
  | 118 => ⟨S284x96x96x3, .i32⟩
  | 119 => ⟨S284x96x96x3, .f32⟩
  | 120 => ⟨S284x96x96x1, .i1⟩
  | 121 => ⟨S_, .f32⟩
  | 122 => ⟨S_, .f32⟩
  | 123 => ⟨S284x96x96x3, .i1⟩
  | 124 => ⟨S284x96x96x3, .f32⟩
  | 125 => ⟨S284x96x96x3, .f32⟩
  | 126 => ⟨S284x96x96, .f32⟩
  | 127 => ⟨S284x96x96x1, .f32⟩
  | _ => ⟨S4x36x64, .f32⟩

abbrev hbmTy0_4 (i : Nat) : BufTy := match i % 128 with
  | 0 => ⟨S284x96x96x3, .f32⟩
  | 1 => ⟨S284x96x96x3, .f32⟩
  | 2 => ⟨S284x96x96x3, .f32⟩
  | 3 => ⟨S284x3x96x96, .f32⟩
  | 4 => ⟨S4x71x3x96x96, .f32⟩
  | 5 => ⟨S_, .f32⟩
  | 6 => ⟨S4x71x1, .f32⟩
  | 7 => ⟨S4x71x1, .i1⟩
  | 8 => ⟨S_, .f32⟩
  | 9 => ⟨S4x71x1, .f32⟩
  | 10 => ⟨S4x71x1, .f32⟩
  | 11 => ⟨S_, .f32⟩
  | 12 => ⟨S4x1, .f32⟩
  | 13 => ⟨S_, .f32⟩
  | 14 => ⟨S4x1, .f32⟩
  | 15 => ⟨S4x1, .f32⟩
  | 16 => ⟨S4x1x1, .f32⟩
  | 17 => ⟨S4x71x1, .f32⟩
  | 18 => ⟨S4x71x1, .f32⟩
  | 19 => ⟨S4x71x1, .f32⟩
  | 20 => ⟨S_, .f32⟩
  | 21 => ⟨S4x1, .f32⟩
  | 22 => ⟨S4x1x1, .f32⟩
  | 23 => ⟨S4x71x1, .f32⟩
  | 24 => ⟨S4x71x1, .f32⟩
  | 25 => ⟨S4x71x1x1x1, .f32⟩
  | 26 => ⟨S4x71x3x96x96, .f32⟩
  | 27 => ⟨S4x71x3x96x96, .f32⟩
  | 28 => ⟨S_, .f32⟩
  | 29 => ⟨S4x3x96x96, .f32⟩
  | _ => ⟨S4x36x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x36x64, .f32⟩

abbrev bufTy : (tb : Table) → Fin (tcTables nBuf tb) → BufTy
  | .hbm, ⟨i, _⟩ => hbmTy i
  | _, _ => ⟨S4x36x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v0 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v1 : Ref sig .tc := ⟨.hbm, 62, rfl⟩
abbrev main_v2 : Ref sig .tc := ⟨.hbm, 63, rfl⟩
abbrev main_v3 : Ref sig .tc := ⟨.hbm, 64, rfl⟩
abbrev main_v4 : Ref sig .tc := ⟨.hbm, 65, rfl⟩
abbrev main_v5 : Ref sig .tc := ⟨.hbm, 66, rfl⟩
abbrev main_v6 : Ref sig .tc := ⟨.hbm, 67, rfl⟩
abbrev main_v7 : Ref sig .tc := ⟨.hbm, 68, rfl⟩
abbrev main_v8 : Ref sig .tc := ⟨.hbm, 69, rfl⟩
abbrev main_v9 : Ref sig .tc := ⟨.hbm, 70, rfl⟩
abbrev main_call2_cst : Ref sig .tc := ⟨.hbm, 71, rfl⟩
abbrev main_call2_v0 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_call3_cst : Ref sig .tc := ⟨.hbm, 80, rfl⟩
abbrev main_call3_v0 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_call4_cst : Ref sig .tc := ⟨.hbm, 89, rfl⟩
abbrev main_call4_v0 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_call5_cst : Ref sig .tc := ⟨.hbm, 98, rfl⟩
abbrev main_call5_v0 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_call6_cst : Ref sig .tc := ⟨.hbm, 107, rfl⟩
abbrev main_call6_v0 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_cst : Ref sig .tc := ⟨.hbm, 118, rfl⟩
abbrev main_v47 : Ref sig .tc := ⟨.hbm, 119, rfl⟩
abbrev main_v48 : Ref sig .tc := ⟨.hbm, 120, rfl⟩
abbrev main_cst_0 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_cst_1 : Ref sig .tc := ⟨.hbm, 133, rfl⟩
abbrev main_v60 : Ref sig .tc := ⟨.hbm, 134, rfl⟩
abbrev main_v61 : Ref sig .tc := ⟨.hbm, 135, rfl⟩
abbrev main_cst_2 : Ref sig .tc := ⟨.hbm, 136, rfl⟩
abbrev main_v62 : Ref sig .tc := ⟨.hbm, 137, rfl⟩
abbrev main_v63 : Ref sig .tc := ⟨.hbm, 138, rfl⟩
abbrev main_cst_3 : Ref sig .tc := ⟨.hbm, 139, rfl⟩
abbrev main_v64 : Ref sig .tc := ⟨.hbm, 140, rfl⟩
abbrev main_v65 : Ref sig .tc := ⟨.hbm, 141, rfl⟩
abbrev main_cst_4 : Ref sig .tc := ⟨.hbm, 142, rfl⟩
abbrev main_v66 : Ref sig .tc := ⟨.hbm, 143, rfl⟩
abbrev main_v67 : Ref sig .tc := ⟨.hbm, 144, rfl⟩
abbrev main_cst_5 : Ref sig .tc := ⟨.hbm, 145, rfl⟩
abbrev main_v68 : Ref sig .tc := ⟨.hbm, 146, rfl⟩
abbrev main_v69 : Ref sig .tc := ⟨.hbm, 147, rfl⟩
abbrev main_cst_6 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_cst_7 : Ref sig .tc := ⟨.hbm, 152, rfl⟩
abbrev main_v73 : Ref sig .tc := ⟨.hbm, 153, rfl⟩
abbrev main_v74 : Ref sig .tc := ⟨.hbm, 154, rfl⟩
abbrev main_cst_8 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_cst_9 : Ref sig .tc := ⟨.hbm, 160, rfl⟩
abbrev main_v79 : Ref sig .tc := ⟨.hbm, 161, rfl⟩
abbrev main_v80 : Ref sig .tc := ⟨.hbm, 162, rfl⟩
abbrev main_cst_10 : Ref sig .tc := ⟨.hbm, 163, rfl⟩
abbrev main_v81 : Ref sig .tc := ⟨.hbm, 164, rfl⟩
abbrev main_v82 : Ref sig .tc := ⟨.hbm, 165, rfl⟩
abbrev main_cst_11 : Ref sig .tc := ⟨.hbm, 166, rfl⟩
abbrev main_v83 : Ref sig .tc := ⟨.hbm, 167, rfl⟩
abbrev main_v84 : Ref sig .tc := ⟨.hbm, 168, rfl⟩
abbrev main_cst_12 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_cst_13 : Ref sig .tc := ⟨.hbm, 190, rfl⟩
abbrev main_v105 : Ref sig .tc := ⟨.hbm, 191, rfl⟩
abbrev main_v106 : Ref sig .tc := ⟨.hbm, 192, rfl⟩
abbrev main_cst_14 : Ref sig .tc := ⟨.hbm, 193, rfl⟩
abbrev main_v107 : Ref sig .tc := ⟨.hbm, 194, rfl⟩
abbrev main_v108 : Ref sig .tc := ⟨.hbm, 195, rfl⟩
abbrev main_cst_15 : Ref sig .tc := ⟨.hbm, 196, rfl⟩
abbrev main_v109 : Ref sig .tc := ⟨.hbm, 197, rfl⟩
abbrev main_v110 : Ref sig .tc := ⟨.hbm, 198, rfl⟩
abbrev main_cst_16 : Ref sig .tc := ⟨.hbm, 199, rfl⟩
abbrev main_v111 : Ref sig .tc := ⟨.hbm, 200, rfl⟩
abbrev main_v112 : Ref sig .tc := ⟨.hbm, 201, rfl⟩
abbrev main_cst_17 : Ref sig .tc := ⟨.hbm, 202, rfl⟩
abbrev main_v113 : Ref sig .tc := ⟨.hbm, 203, rfl⟩
abbrev main_v114 : Ref sig .tc := ⟨.hbm, 204, rfl⟩
abbrev main_cst_18 : Ref sig .tc := ⟨.hbm, 205, rfl⟩
abbrev main_v115 : Ref sig .tc := ⟨.hbm, 206, rfl⟩
abbrev main_v116 : Ref sig .tc := ⟨.hbm, 207, rfl⟩
abbrev main_cst_19 : Ref sig .tc := ⟨.hbm, 208, rfl⟩
abbrev main_v117 : Ref sig .tc := ⟨.hbm, 209, rfl⟩
abbrev main_v118 : Ref sig .tc := ⟨.hbm, 210, rfl⟩
abbrev main_cst_20 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_cst_21 : Ref sig .tc := ⟨.hbm, 216, rfl⟩
abbrev main_v123 : Ref sig .tc := ⟨.hbm, 217, rfl⟩
abbrev main_v124 : Ref sig .tc := ⟨.hbm, 218, rfl⟩
abbrev main_cst_22 : Ref sig .tc := ⟨.hbm, 219, rfl⟩
abbrev main_v125 : Ref sig .tc := ⟨.hbm, 220, rfl⟩
abbrev main_v126 : Ref sig .tc := ⟨.hbm, 221, rfl⟩
abbrev main_v127 : Ref sig .tc := ⟨.hbm, 222, rfl⟩
abbrev main_cst_23 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_cst_24 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_cst_25 : Ref sig .tc := ⟨.hbm, 232, rfl⟩
abbrev main_v135 : Ref sig .tc := ⟨.hbm, 233, rfl⟩
abbrev main_v136 : Ref sig .tc := ⟨.hbm, 234, rfl⟩
abbrev main_cst_26 : Ref sig .tc := ⟨.hbm, 235, rfl⟩
abbrev main_v137 : Ref sig .tc := ⟨.hbm, 236, rfl⟩
abbrev main_v138 : Ref sig .tc := ⟨.hbm, 237, rfl⟩
abbrev main_v139 : Ref sig .tc := ⟨.hbm, 238, rfl⟩
abbrev main_cst_27 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_cst_28 : Ref sig .tc := ⟨.hbm, 243, rfl⟩
abbrev main_v143 : Ref sig .tc := ⟨.hbm, 244, rfl⟩
abbrev main_v144 : Ref sig .tc := ⟨.hbm, 245, rfl⟩
abbrev main_v145 : Ref sig .tc := ⟨.hbm, 246, rfl⟩
abbrev main_c : Ref sig .tc := ⟨.hbm, 247, rfl⟩
abbrev main_c_29 : Ref sig .tc := ⟨.hbm, 248, rfl⟩
abbrev main_call7_v0 : Ref sig .tc := ⟨.hbm, 249, rfl⟩
abbrev main_call7_v1 : Ref sig .tc := ⟨.hbm, 250, rfl⟩
abbrev main_call7_v2 : Ref sig .tc := ⟨.hbm, 251, rfl⟩
abbrev main_call7_v3 : Ref sig .tc := ⟨.hbm, 252, rfl⟩
abbrev main_call7_v4 : Ref sig .tc := ⟨.hbm, 253, rfl⟩
abbrev main_v146 : Ref sig .tc := ⟨.hbm, 254, rfl⟩
abbrev main_v147 : Ref sig .tc := ⟨.hbm, 255, rfl⟩
abbrev main_c_30 : Ref sig .tc := ⟨.hbm, 256, rfl⟩
abbrev main_c_31 : Ref sig .tc := ⟨.hbm, 257, rfl⟩
abbrev main_call8_v0 : Ref sig .tc := ⟨.hbm, 258, rfl⟩
abbrev main_call8_v1 : Ref sig .tc := ⟨.hbm, 259, rfl⟩
abbrev main_call8_v2 : Ref sig .tc := ⟨.hbm, 260, rfl⟩
abbrev main_call8_v3 : Ref sig .tc := ⟨.hbm, 261, rfl⟩
abbrev main_call8_v4 : Ref sig .tc := ⟨.hbm, 262, rfl⟩
abbrev main_v148 : Ref sig .tc := ⟨.hbm, 263, rfl⟩
abbrev main_v149 : Ref sig .tc := ⟨.hbm, 264, rfl⟩
abbrev main_c_32 : Ref sig .tc := ⟨.hbm, 265, rfl⟩
abbrev main_v150 : Ref sig .tc := ⟨.hbm, 266, rfl⟩
abbrev main_v151 : Ref sig .tc := ⟨.hbm, 267, rfl⟩
abbrev main_c_33 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_c_34 : Ref sig .tc := ⟨.hbm, 272, rfl⟩
abbrev main_v155 : Ref sig .tc := ⟨.hbm, 273, rfl⟩
abbrev main_v156 : Ref sig .tc := ⟨.hbm, 274, rfl⟩
abbrev main_c_35 : Ref sig .tc := ⟨.hbm, 275, rfl⟩
abbrev main_v157 : Ref sig .tc := ⟨.hbm, 276, rfl⟩
abbrev main_v158 : Ref sig .tc := ⟨.hbm, 277, rfl⟩
abbrev main_v159 : Ref sig .tc := ⟨.hbm, 278, rfl⟩
abbrev main_c_36 : Ref sig .tc := ⟨.hbm, 279, rfl⟩
abbrev main_v160 : Ref sig .tc := ⟨.hbm, 280, rfl⟩
abbrev main_v161 : Ref sig .tc := ⟨.hbm, 281, rfl⟩
abbrev main_c_37 : Ref sig .tc := ⟨.hbm, 282, rfl⟩
abbrev main_v162 : Ref sig .tc := ⟨.hbm, 283, rfl⟩
abbrev main_v163 : Ref sig .tc := ⟨.hbm, 284, rfl⟩
abbrev main_v164 : Ref sig .tc := ⟨.hbm, 285, rfl⟩
abbrev main_v165 : Ref sig .tc := ⟨.hbm, 286, rfl⟩
abbrev main_v166 : Ref sig .tc := ⟨.hbm, 287, rfl⟩
abbrev main_v167 : Ref sig .tc := ⟨.hbm, 288, rfl⟩
abbrev main_v168 : Ref sig .tc := ⟨.hbm, 289, rfl⟩
abbrev main_v169 : Ref sig .tc := ⟨.hbm, 290, rfl⟩
abbrev main_v170 : Ref sig .tc := ⟨.hbm, 291, rfl⟩
abbrev main_v171 : Ref sig .tc := ⟨.hbm, 292, rfl⟩
abbrev main_cst_38 : Ref sig .tc := ⟨.hbm, 293, rfl⟩
abbrev main_call9_v0 : Ref sig .tc := ⟨.hbm, 294, rfl⟩
abbrev main_call9_v1 : Ref sig .tc := ⟨.hbm, 295, rfl⟩
abbrev main_call9_v2 : Ref sig .tc := ⟨.hbm, 296, rfl⟩
abbrev main_v172 : Ref sig .tc := ⟨.hbm, 297, rfl⟩
abbrev main_v173 : Ref sig .tc := ⟨.hbm, 298, rfl⟩
abbrev main_v174 : Ref sig .tc := ⟨.hbm, 299, rfl⟩
abbrev main_v175 : Ref sig .tc := ⟨.hbm, 300, rfl⟩
abbrev main_v176 : Ref sig .tc := ⟨.hbm, 301, rfl⟩
abbrev main_cst_39 : Ref sig .tc := ⟨.hbm, 302, rfl⟩
abbrev main_v177 : Ref sig .tc := ⟨.hbm, 303, rfl⟩
abbrev main_v178 : Ref sig .tc := ⟨.hbm, 304, rfl⟩
abbrev main_cst_40 : Ref sig .tc := ⟨.hbm, 305, rfl⟩
abbrev main_v179 : Ref sig .tc := ⟨.hbm, 306, rfl⟩
abbrev main_v180 : Ref sig .tc := ⟨.hbm, 307, rfl⟩
abbrev main_v181 : Ref sig .tc := ⟨.hbm, 308, rfl⟩
abbrev main_cst_41 : Ref sig .tc := ⟨.hbm, 309, rfl⟩
abbrev main_v182 : Ref sig .tc := ⟨.hbm, 310, rfl⟩
abbrev main_v183 : Ref sig .tc := ⟨.hbm, 311, rfl⟩
abbrev main_v184 : Ref sig .tc := ⟨.hbm, 312, rfl⟩
abbrev main_cst_42 : Ref sig .tc := ⟨.hbm, 313, rfl⟩
abbrev main_v185 : Ref sig .tc := ⟨.hbm, 314, rfl⟩
abbrev main_v186 : Ref sig .tc := ⟨.hbm, 315, rfl⟩
abbrev main_v187 : Ref sig .tc := ⟨.hbm, 316, rfl⟩
abbrev main_c_43 : Ref sig .tc := ⟨.hbm, 317, rfl⟩
abbrev main_c_44 : Ref sig .tc := ⟨.hbm, 318, rfl⟩
abbrev main_call10_v0 : Ref sig .tc := ⟨.hbm, 319, rfl⟩
abbrev main_call10_v1 : Ref sig .tc := ⟨.hbm, 320, rfl⟩
abbrev main_call10_v2 : Ref sig .tc := ⟨.hbm, 321, rfl⟩
abbrev main_call10_v3 : Ref sig .tc := ⟨.hbm, 322, rfl⟩
abbrev main_call10_v4 : Ref sig .tc := ⟨.hbm, 323, rfl⟩
abbrev main_v188 : Ref sig .tc := ⟨.hbm, 324, rfl⟩
abbrev main_v189 : Ref sig .tc := ⟨.hbm, 325, rfl⟩
abbrev main_c_45 : Ref sig .tc := ⟨.hbm, 326, rfl⟩
abbrev main_c_46 : Ref sig .tc := ⟨.hbm, 327, rfl⟩
abbrev main_call11_v0 : Ref sig .tc := ⟨.hbm, 328, rfl⟩
abbrev main_call11_v1 : Ref sig .tc := ⟨.hbm, 329, rfl⟩
abbrev main_call11_v2 : Ref sig .tc := ⟨.hbm, 330, rfl⟩
abbrev main_call11_v3 : Ref sig .tc := ⟨.hbm, 331, rfl⟩
abbrev main_call11_v4 : Ref sig .tc := ⟨.hbm, 332, rfl⟩
abbrev main_v190 : Ref sig .tc := ⟨.hbm, 333, rfl⟩
abbrev main_v191 : Ref sig .tc := ⟨.hbm, 334, rfl⟩
abbrev main_c_47 : Ref sig .tc := ⟨.hbm, 335, rfl⟩
abbrev main_v192 : Ref sig .tc := ⟨.hbm, 336, rfl⟩
abbrev main_v193 : Ref sig .tc := ⟨.hbm, 337, rfl⟩
abbrev main_c_48 : Ref sig .tc := ⟨.hbm, 338, rfl⟩
abbrev main_v194 : Ref sig .tc := ⟨.hbm, 339, rfl⟩
abbrev main_v195 : Ref sig .tc := ⟨.hbm, 340, rfl⟩
abbrev main_v196 : Ref sig .tc := ⟨.hbm, 341, rfl⟩
abbrev main_c_49 : Ref sig .tc := ⟨.hbm, 342, rfl⟩
abbrev main_v197 : Ref sig .tc := ⟨.hbm, 343, rfl⟩
abbrev main_v198 : Ref sig .tc := ⟨.hbm, 344, rfl⟩
abbrev main_c_50 : Ref sig .tc := ⟨.hbm, 345, rfl⟩
abbrev main_v199 : Ref sig .tc := ⟨.hbm, 346, rfl⟩
abbrev main_v200 : Ref sig .tc := ⟨.hbm, 347, rfl⟩
abbrev main_v201 : Ref sig .tc := ⟨.hbm, 348, rfl⟩
abbrev main_c_51 : Ref sig .tc := ⟨.hbm, 349, rfl⟩
abbrev main_v202 : Ref sig .tc := ⟨.hbm, 350, rfl⟩
abbrev main_v203 : Ref sig .tc := ⟨.hbm, 351, rfl⟩
abbrev main_c_52 : Ref sig .tc := ⟨.hbm, 352, rfl⟩
abbrev main_v204 : Ref sig .tc := ⟨.hbm, 353, rfl⟩
abbrev main_v205 : Ref sig .tc := ⟨.hbm, 354, rfl⟩
abbrev main_v206 : Ref sig .tc := ⟨.hbm, 355, rfl⟩
abbrev main_v207 : Ref sig .tc := ⟨.hbm, 356, rfl⟩
abbrev main_v208 : Ref sig .tc := ⟨.hbm, 357, rfl⟩
abbrev main_v209 : Ref sig .tc := ⟨.hbm, 358, rfl⟩
abbrev main_v210 : Ref sig .tc := ⟨.hbm, 359, rfl⟩
abbrev main_v211 : Ref sig .tc := ⟨.hbm, 360, rfl⟩
abbrev main_v212 : Ref sig .tc := ⟨.hbm, 361, rfl⟩
abbrev main_v213 : Ref sig .tc := ⟨.hbm, 362, rfl⟩
abbrev main_cst_53 : Ref sig .tc := ⟨.hbm, 363, rfl⟩
abbrev main_call12_v0 : Ref sig .tc := ⟨.hbm, 364, rfl⟩
abbrev main_call12_v1 : Ref sig .tc := ⟨.hbm, 365, rfl⟩
abbrev main_call12_v2 : Ref sig .tc := ⟨.hbm, 366, rfl⟩
abbrev main_v214 : Ref sig .tc := ⟨.hbm, 367, rfl⟩
abbrev main_v215 : Ref sig .tc := ⟨.hbm, 368, rfl⟩
abbrev main_v216 : Ref sig .tc := ⟨.hbm, 369, rfl⟩
abbrev main_v217 : Ref sig .tc := ⟨.hbm, 370, rfl⟩
abbrev main_v218 : Ref sig .tc := ⟨.hbm, 371, rfl⟩
abbrev main_v219 : Ref sig .tc := ⟨.hbm, 372, rfl⟩
abbrev main_cst_54 : Ref sig .tc := ⟨.hbm, 373, rfl⟩
abbrev main_v220 : Ref sig .tc := ⟨.hbm, 374, rfl⟩
abbrev main_v221 : Ref sig .tc := ⟨.hbm, 375, rfl⟩
abbrev main_cst_55 : Ref sig .tc := ⟨.hbm, 376, rfl⟩
abbrev main_v222 : Ref sig .tc := ⟨.hbm, 377, rfl⟩
abbrev main_v223 : Ref sig .tc := ⟨.hbm, 378, rfl⟩
abbrev main_v224 : Ref sig .tc := ⟨.hbm, 379, rfl⟩
abbrev main_cst_56 : Ref sig .tc := ⟨.hbm, 380, rfl⟩
abbrev main_v225 : Ref sig .tc := ⟨.hbm, 381, rfl⟩
abbrev main_v226 : Ref sig .tc := ⟨.hbm, 382, rfl⟩
abbrev main_v227 : Ref sig .tc := ⟨.hbm, 383, rfl⟩
abbrev main_cst_57 : Ref sig .tc := ⟨.hbm, 384, rfl⟩
abbrev main_v228 : Ref sig .tc := ⟨.hbm, 385, rfl⟩
abbrev main_v229 : Ref sig .tc := ⟨.hbm, 386, rfl⟩
abbrev main_v230 : Ref sig .tc := ⟨.hbm, 387, rfl⟩
abbrev main_c_58 : Ref sig .tc := ⟨.hbm, 388, rfl⟩
abbrev main_c_59 : Ref sig .tc := ⟨.hbm, 389, rfl⟩
abbrev main_call13_v0 : Ref sig .tc := ⟨.hbm, 390, rfl⟩
abbrev main_call13_v1 : Ref sig .tc := ⟨.hbm, 391, rfl⟩
abbrev main_call13_v2 : Ref sig .tc := ⟨.hbm, 392, rfl⟩
abbrev main_call13_v3 : Ref sig .tc := ⟨.hbm, 393, rfl⟩
abbrev main_call13_v4 : Ref sig .tc := ⟨.hbm, 394, rfl⟩
abbrev main_v231 : Ref sig .tc := ⟨.hbm, 395, rfl⟩
abbrev main_v232 : Ref sig .tc := ⟨.hbm, 396, rfl⟩
abbrev main_c_60 : Ref sig .tc := ⟨.hbm, 397, rfl⟩
abbrev main_c_61 : Ref sig .tc := ⟨.hbm, 398, rfl⟩
abbrev main_call14_v0 : Ref sig .tc := ⟨.hbm, 399, rfl⟩
abbrev main_call14_v1 : Ref sig .tc := ⟨.hbm, 400, rfl⟩
abbrev main_call14_v2 : Ref sig .tc := ⟨.hbm, 401, rfl⟩
abbrev main_call14_v3 : Ref sig .tc := ⟨.hbm, 402, rfl⟩
abbrev main_call14_v4 : Ref sig .tc := ⟨.hbm, 403, rfl⟩
abbrev main_v233 : Ref sig .tc := ⟨.hbm, 404, rfl⟩
abbrev main_v234 : Ref sig .tc := ⟨.hbm, 405, rfl⟩
abbrev main_c_62 : Ref sig .tc := ⟨.hbm, 406, rfl⟩
abbrev main_v235 : Ref sig .tc := ⟨.hbm, 407, rfl⟩
abbrev main_v236 : Ref sig .tc := ⟨.hbm, 408, rfl⟩
abbrev main_c_63 : Ref sig .tc := ⟨.hbm, 409, rfl⟩
abbrev main_v237 : Ref sig .tc := ⟨.hbm, 410, rfl⟩
abbrev main_v238 : Ref sig .tc := ⟨.hbm, 411, rfl⟩
abbrev main_v239 : Ref sig .tc := ⟨.hbm, 412, rfl⟩
abbrev main_c_64 : Ref sig .tc := ⟨.hbm, 413, rfl⟩
abbrev main_v240 : Ref sig .tc := ⟨.hbm, 414, rfl⟩
abbrev main_v241 : Ref sig .tc := ⟨.hbm, 415, rfl⟩
abbrev main_c_65 : Ref sig .tc := ⟨.hbm, 416, rfl⟩
abbrev main_v242 : Ref sig .tc := ⟨.hbm, 417, rfl⟩
abbrev main_v243 : Ref sig .tc := ⟨.hbm, 418, rfl⟩
abbrev main_v244 : Ref sig .tc := ⟨.hbm, 419, rfl⟩
abbrev main_c_66 : Ref sig .tc := ⟨.hbm, 420, rfl⟩
abbrev main_v245 : Ref sig .tc := ⟨.hbm, 421, rfl⟩
abbrev main_v246 : Ref sig .tc := ⟨.hbm, 422, rfl⟩
abbrev main_c_67 : Ref sig .tc := ⟨.hbm, 423, rfl⟩
abbrev main_v247 : Ref sig .tc := ⟨.hbm, 424, rfl⟩
abbrev main_v248 : Ref sig .tc := ⟨.hbm, 425, rfl⟩
abbrev main_v249 : Ref sig .tc := ⟨.hbm, 426, rfl⟩
abbrev main_v250 : Ref sig .tc := ⟨.hbm, 427, rfl⟩
abbrev main_v251 : Ref sig .tc := ⟨.hbm, 428, rfl⟩
abbrev main_v252 : Ref sig .tc := ⟨.hbm, 429, rfl⟩
abbrev main_v253 : Ref sig .tc := ⟨.hbm, 430, rfl⟩
abbrev main_v254 : Ref sig .tc := ⟨.hbm, 431, rfl⟩
abbrev main_v255 : Ref sig .tc := ⟨.hbm, 432, rfl⟩
abbrev main_v256 : Ref sig .tc := ⟨.hbm, 433, rfl⟩
abbrev main_cst_68 : Ref sig .tc := ⟨.hbm, 434, rfl⟩
abbrev main_call15_v0 : Ref sig .tc := ⟨.hbm, 435, rfl⟩
abbrev main_call15_v1 : Ref sig .tc := ⟨.hbm, 436, rfl⟩
abbrev main_call15_v2 : Ref sig .tc := ⟨.hbm, 437, rfl⟩
abbrev main_v257 : Ref sig .tc := ⟨.hbm, 438, rfl⟩
abbrev main_v258 : Ref sig .tc := ⟨.hbm, 439, rfl⟩
abbrev main_v259 : Ref sig .tc := ⟨.hbm, 440, rfl⟩
abbrev main_v260 : Ref sig .tc := ⟨.hbm, 441, rfl⟩
abbrev main_v261 : Ref sig .tc := ⟨.hbm, 442, rfl⟩
abbrev main_v262 : Ref sig .tc := ⟨.hbm, 443, rfl⟩
abbrev main_cst_69 : Ref sig .tc := ⟨.hbm, 444, rfl⟩
abbrev main_v263 : Ref sig .tc := ⟨.hbm, 445, rfl⟩
abbrev main_v264 : Ref sig .tc := ⟨.hbm, 446, rfl⟩
abbrev main_cst_70 : Ref sig .tc := ⟨.hbm, 447, rfl⟩
abbrev main_v265 : Ref sig .tc := ⟨.hbm, 448, rfl⟩
abbrev main_v266 : Ref sig .tc := ⟨.hbm, 449, rfl⟩
abbrev main_v267 : Ref sig .tc := ⟨.hbm, 450, rfl⟩
abbrev main_cst_71 : Ref sig .tc := ⟨.hbm, 451, rfl⟩
abbrev main_v268 : Ref sig .tc := ⟨.hbm, 452, rfl⟩
abbrev main_v269 : Ref sig .tc := ⟨.hbm, 453, rfl⟩
abbrev main_v270 : Ref sig .tc := ⟨.hbm, 454, rfl⟩
abbrev main_cst_72 : Ref sig .tc := ⟨.hbm, 455, rfl⟩
abbrev main_v271 : Ref sig .tc := ⟨.hbm, 456, rfl⟩
abbrev main_v272 : Ref sig .tc := ⟨.hbm, 457, rfl⟩
abbrev main_v273 : Ref sig .tc := ⟨.hbm, 458, rfl⟩
abbrev main_c_73 : Ref sig .tc := ⟨.hbm, 459, rfl⟩
abbrev main_c_74 : Ref sig .tc := ⟨.hbm, 460, rfl⟩
abbrev main_call16_v0 : Ref sig .tc := ⟨.hbm, 461, rfl⟩
abbrev main_call16_v1 : Ref sig .tc := ⟨.hbm, 462, rfl⟩
abbrev main_call16_v2 : Ref sig .tc := ⟨.hbm, 463, rfl⟩
abbrev main_call16_v3 : Ref sig .tc := ⟨.hbm, 464, rfl⟩
abbrev main_call16_v4 : Ref sig .tc := ⟨.hbm, 465, rfl⟩
abbrev main_v274 : Ref sig .tc := ⟨.hbm, 466, rfl⟩
abbrev main_v275 : Ref sig .tc := ⟨.hbm, 467, rfl⟩
abbrev main_c_75 : Ref sig .tc := ⟨.hbm, 468, rfl⟩
abbrev main_c_76 : Ref sig .tc := ⟨.hbm, 469, rfl⟩
abbrev main_call17_v0 : Ref sig .tc := ⟨.hbm, 470, rfl⟩
abbrev main_call17_v1 : Ref sig .tc := ⟨.hbm, 471, rfl⟩
abbrev main_call17_v2 : Ref sig .tc := ⟨.hbm, 472, rfl⟩
abbrev main_call17_v3 : Ref sig .tc := ⟨.hbm, 473, rfl⟩
abbrev main_call17_v4 : Ref sig .tc := ⟨.hbm, 474, rfl⟩
abbrev main_v276 : Ref sig .tc := ⟨.hbm, 475, rfl⟩
abbrev main_v277 : Ref sig .tc := ⟨.hbm, 476, rfl⟩
abbrev main_c_77 : Ref sig .tc := ⟨.hbm, 477, rfl⟩
abbrev main_v278 : Ref sig .tc := ⟨.hbm, 478, rfl⟩
abbrev main_v279 : Ref sig .tc := ⟨.hbm, 479, rfl⟩
abbrev main_c_78 : Ref sig .tc := ⟨.hbm, 480, rfl⟩
abbrev main_v280 : Ref sig .tc := ⟨.hbm, 481, rfl⟩
abbrev main_v281 : Ref sig .tc := ⟨.hbm, 482, rfl⟩
abbrev main_v282 : Ref sig .tc := ⟨.hbm, 483, rfl⟩
abbrev main_c_79 : Ref sig .tc := ⟨.hbm, 484, rfl⟩
abbrev main_v283 : Ref sig .tc := ⟨.hbm, 485, rfl⟩
abbrev main_v284 : Ref sig .tc := ⟨.hbm, 486, rfl⟩
abbrev main_c_80 : Ref sig .tc := ⟨.hbm, 487, rfl⟩
abbrev main_v285 : Ref sig .tc := ⟨.hbm, 488, rfl⟩
abbrev main_v286 : Ref sig .tc := ⟨.hbm, 489, rfl⟩
abbrev main_v287 : Ref sig .tc := ⟨.hbm, 490, rfl⟩
abbrev main_c_81 : Ref sig .tc := ⟨.hbm, 491, rfl⟩
abbrev main_v288 : Ref sig .tc := ⟨.hbm, 492, rfl⟩
abbrev main_v289 : Ref sig .tc := ⟨.hbm, 493, rfl⟩
abbrev main_c_82 : Ref sig .tc := ⟨.hbm, 494, rfl⟩
abbrev main_v290 : Ref sig .tc := ⟨.hbm, 495, rfl⟩
abbrev main_v291 : Ref sig .tc := ⟨.hbm, 496, rfl⟩
abbrev main_v292 : Ref sig .tc := ⟨.hbm, 497, rfl⟩
abbrev main_v293 : Ref sig .tc := ⟨.hbm, 498, rfl⟩
abbrev main_v294 : Ref sig .tc := ⟨.hbm, 499, rfl⟩
abbrev main_v295 : Ref sig .tc := ⟨.hbm, 500, rfl⟩
abbrev main_v296 : Ref sig .tc := ⟨.hbm, 501, rfl⟩
abbrev main_v297 : Ref sig .tc := ⟨.hbm, 502, rfl⟩
abbrev main_v298 : Ref sig .tc := ⟨.hbm, 503, rfl⟩
abbrev main_v299 : Ref sig .tc := ⟨.hbm, 504, rfl⟩
abbrev main_cst_83 : Ref sig .tc := ⟨.hbm, 505, rfl⟩
abbrev main_call18_v0 : Ref sig .tc := ⟨.hbm, 506, rfl⟩
abbrev main_call18_v1 : Ref sig .tc := ⟨.hbm, 507, rfl⟩
abbrev main_call18_v2 : Ref sig .tc := ⟨.hbm, 508, rfl⟩
abbrev main_v300 : Ref sig .tc := ⟨.hbm, 509, rfl⟩
abbrev main_v301 : Ref sig .tc := ⟨.hbm, 510, rfl⟩
abbrev main_v302 : Ref sig .tc := ⟨.hbm, 511, rfl⟩
abbrev main_v303 : Ref sig .tc := ⟨.hbm, 512, rfl⟩
abbrev main_v304 : Ref sig .tc := ⟨.hbm, 513, rfl⟩
abbrev main_v305 : Ref sig .tc := ⟨.hbm, 514, rfl⟩
abbrev main_v306 : Ref sig .tc := ⟨.hbm, 515, rfl⟩
abbrev main_v307 : Ref sig .tc := ⟨.hbm, 516, rfl⟩
abbrev main_cst_84 : Ref sig .tc := ⟨.hbm, 517, rfl⟩
abbrev main_v308 : Ref sig .tc := ⟨.hbm, 518, rfl⟩
abbrev main_v309 : Ref sig .tc := ⟨.hbm, 519, rfl⟩
abbrev main_cst_85 : Ref sig .tc := ⟨.hbm, 520, rfl⟩
abbrev main_call19_v0 : Ref sig .tc := ⟨.hbm, 521, rfl⟩
abbrev main_v310 : Ref sig .tc := ⟨.hbm, 522, rfl⟩
abbrev main_cst_86 : Ref sig .tc := ⟨.hbm, 523, rfl⟩
abbrev main_v311 : Ref sig .tc := ⟨.hbm, 524, rfl⟩
abbrev main_cst_87 : Ref sig .tc := ⟨.hbm, 525, rfl⟩
abbrev main_v312 : Ref sig .tc := ⟨.hbm, 526, rfl⟩
abbrev main_v313 : Ref sig .tc := ⟨.hbm, 527, rfl⟩
abbrev main_v314 : Ref sig .tc := ⟨.hbm, 528, rfl⟩
abbrev main_v315 : Ref sig .tc := ⟨.hbm, 529, rfl⟩
abbrev main_v316 : Ref sig .tc := ⟨.hbm, 530, rfl⟩
abbrev main_v317 : Ref sig .tc := ⟨.hbm, 531, rfl⟩
abbrev main_cst_88 : Ref sig .tc := ⟨.hbm, 532, rfl⟩
abbrev main_v318 : Ref sig .tc := ⟨.hbm, 533, rfl⟩
abbrev main_v319 : Ref sig .tc := ⟨.hbm, 534, rfl⟩
abbrev main_v320 : Ref sig .tc := ⟨.hbm, 535, rfl⟩
abbrev main_v321 : Ref sig .tc := ⟨.hbm, 536, rfl⟩
abbrev main_v322 : Ref sig .tc := ⟨.hbm, 537, rfl⟩
abbrev main_v323 : Ref sig .tc := ⟨.hbm, 538, rfl⟩
abbrev main_v324 : Ref sig .tc := ⟨.hbm, 539, rfl⟩
abbrev main_cst_89 : Ref sig .tc := ⟨.hbm, 540, rfl⟩
abbrev main_v325 : Ref sig .tc := ⟨.hbm, 541, rfl⟩

abbrev nD : Nat := 1
abbrev τ : Topo := Topo.v7x

variable {F : FTy → Type} [FloatOps F]
-- ==== Proof.KernelIdeal.Sample.lean ====
/- The sampling region of the program, at any float instance: its body run on whole staging buffers, what the body leaves in the
   output window, and the obligation the pipeline asks of the body at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Stage

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__stn_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): the library lemma
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): the library lemma
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): the library lemma
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): the library lemma
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): the library lemma
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at every point — by arithmetic of the point. -/
theorem hcond1_0 : ∀ t : Fin cfg1.N, cond1_0 (grid1.coords t) :=
  (fun t => by
    have ht : t.val < 4 := Nat.lt_of_lt_of_eq t.isLt N_1
    have e0 : (grid1.coords t 0).val = t.val / 1 % 4 := Pipeline.Grid.coords_val t 0 (by decide) rfl
    have e1 : (grid1.coords t 1).val = t.val / 1 % 1 := Pipeline.Grid.coords_val t 1 (by decide) rfl
    simp only [cond1_0, k1_cond1, e0, e1]
    word_cmp
   : ∀ t : Fin grid1.N, cond1_0 (grid1.coords t))

/-- The condition of the body's `scf.if` 1 (`k1_h2`), from the grid coordinates (the skeleton's scalar
    chain substituted). -/
abbrev cond1_1 (i : grid1.Coords) : Prop := k1_cond2 i = 1#1
/-- It holds at no point — by arithmetic of the point. -/
theorem hcond1_1 : ∀ t : Fin cfg1.N, ¬cond1_1 (grid1.coords t) :=
  (fun t => by
    have ht : t.val < 4 := Nat.lt_of_lt_of_eq t.isLt N_1
    have e0 : (grid1.coords t 0).val = t.val / 1 % 4 := Pipeline.Grid.coords_val t 0 (by decide) rfl
    have e1 : (grid1.coords t 1).val = t.val / 1 % 1 := Pipeline.Grid.coords_val t 1 (by decide) rfl
    simp only [cond1_1, k1_cond2, e0, e1]
    word_cmp
   : ∀ t : Fin grid1.N, ¬cond1_1 (grid1.coords t))

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- At the points of case A the printed configuration (`Cfg.idle`) calls output 5 live: the case stores into it. -/
theorem liveAt1_5_A : ∀ t : Fin cfg1.N, cond1_0 (grid1.coords t) → ¬cond1_1 (grid1.coords t) → cfg1.idle 5 (grid1.coords t) = false := by decide +kernel

/-! ## The kernel body on any staging memrefs: a subtype the run finds -/

/-- One staging buffer of output window 5, through which its contents are stated (`View.read_writes_of_cover`: the
    choice does not matter). -/
abbrev VO1_5 : View sig .tc .vmem S1x3x96x96 .f32 := (Memref.whole cc1_stg5_0 : Memref sig .tc .vmem S1x3x96x96 .f32).view
/-- Each window's current staging memref at point `t`, spelled as the pipeline passes it (`bodyAt1`), and its wholeness. -/
abbrev ms1_0 (t : Fin cfg1.N) : Memref sig .tc .vmem S1x1x72 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x72x64x192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x72x4 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x36x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x72x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x3x96x96 .f32 := win1_5.stage (cfg1.slots t 5)
abbrev hs1_5 (t : Fin cfg1.N) : (ms1_5 t).IsWhole := hstage1_5 ((cfg1.slots t 5).cast nbuf1_5)

-- (the run's proof term is large)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1x1x72 .i32) (harg2 : arg2.IsWhole) (arg3 : Memref sig .tc .vmem S1x72x64x192 .f32) (harg3 : arg3.IsWhole) (arg4 : Memref sig .tc .vmem S1x72x4 .f32) (harg4 : arg4.IsWhole) (arg5 : Memref sig .tc .vmem S1x36x1 .f32) (harg5 : arg5.IsWhole) (arg6 : Memref sig .tc .vmem S1x72x1 .f32) (harg6 : arg6.IsWhole) (arg7 : Memref sig .tc .vmem S1x3x96x96 .f32) (harg7 : arg7.IsWhole) (hc0 : cond1_0 i) (hc1 : ¬cond1_1 i)
    (x0 : Vec F S1x1x72 .i32) (x1 : Vec F S1x72x64x192 .f32) (x2 : Vec F S1x72x4 .f32) (x3 : Vec F S1x36x1 .f32) (x4 : Vec F S1x72x1 .f32) :
    { L5 : List (View.Piece (Elt F) S1x3x96x96 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc1__stn_kernel i arg2 harg2 arg3 harg3 arg4 harg4 arg5 harg5 arg6 harg6 arg7 harg7) K } := by
  refine ⟨?_, fun E K => ?run⟩
  case run =>
    simp only [cc1__stn_kernel_eq_skeleton]; unfold cc1__stn_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

/-- The run's pieces for output 5 tile its block (1 store of `S1x3x96x96`), so they cover it. -/
theorem cover1_A_5 (c : Dev nD) (i : grid1.Coords) (arg2 : Memref sig .tc .vmem S1x1x72 .i32) (harg2 : arg2.IsWhole) (arg3 : Memref sig .tc .vmem S1x72x64x192 .f32) (harg3 : arg3.IsWhole) (arg4 : Memref sig .tc .vmem S1x72x4 .f32) (harg4 : arg4.IsWhole) (arg5 : Memref sig .tc .vmem S1x36x1 .f32) (harg5 : arg5.IsWhole) (arg6 : Memref sig .tc .vmem S1x72x1 .f32) (harg6 : arg6.IsWhole) (arg7 : Memref sig .tc .vmem S1x3x96x96 .f32) (harg7 : arg7.IsWhole) (hc0 : cond1_0 i) (hc1 : ¬cond1_1 i)
    (x0 : Vec F S1x1x72 .i32) (x1 : Vec F S1x72x64x192 .f32) (x2 : Vec F S1x72x4 .f32) (x3 : Vec F S1x36x1 .f32) (x4 : Vec F S1x72x1 .f32) (y : S1x3x96x96.Idx) :
    ∃ pc ∈ (kernelRun1_A c i arg2 harg2 arg3 harg3 arg4 harg4 arg5 harg5 arg6 harg6 arg7 harg7 hc0 hc1 x0 x1 x2 x3 x4).1, y ∈ pc.1.set :=
  View.cover_of_tiledL (kernelRun1_A c i arg2 harg2 arg3 harg3 arg4 harg4 arg5 harg5 arg6 harg6 arg7 harg7 hc0 hc1 x0 x1 x2 x3 x4).1 S1x3x96x96.size (by sl_kernel_rfl) y

/-- What the run leaves in output 5's staging buffer: its pieces read back over junk. -/
def out1_A_5 (c : Dev nD) (i : grid1.Coords) (arg2 : Memref sig .tc .vmem S1x1x72 .i32) (harg2 : arg2.IsWhole) (arg3 : Memref sig .tc .vmem S1x72x64x192 .f32) (harg3 : arg3.IsWhole) (arg4 : Memref sig .tc .vmem S1x72x4 .f32) (harg4 : arg4.IsWhole) (arg5 : Memref sig .tc .vmem S1x36x1 .f32) (harg5 : arg5.IsWhole) (arg6 : Memref sig .tc .vmem S1x72x1 .f32) (harg6 : arg6.IsWhole) (arg7 : Memref sig .tc .vmem S1x3x96x96 .f32) (harg7 : arg7.IsWhole) (hc0 : cond1_0 i) (hc1 : ¬cond1_1 i)
    (x0 : Vec F S1x1x72 .i32) (x1 : Vec F S1x72x64x192 .f32) (x2 : Vec F S1x72x4 .f32) (x3 : Vec F S1x36x1 .f32) (x4 : Vec F S1x72x1 .f32) : Vec F S1x3x96x96 .f32 :=
  VO1_5.read (Elt F) (VO1_5.writes (Elt F) VO1_5.junk (kernelRun1_A c i arg2 harg2 arg3 harg3 arg4 harg4 arg5 harg5 arg6 harg6 arg7 harg7 hc0 hc1 x0 x1 x2 x3 x4).1)

/-! ## What the outputs hold after each point -/

/-- What the outputs' staging buffers hold after the body at point `t`: the run's contents at
    the point's memrefs and input blocks. -/
def outsAt1 (c : Dev nD) (t : Fin cfg1.N) : Vec F S1x3x96x96 .f32 :=
  out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (hcond1_0 t) (hcond1_1 t) (iblk1 V c 0 t) (iblk1 V c 1 t) (iblk1 V c 2 t) (iblk1 V c 3 t) (iblk1 V c 4 t)

/-! ## The pipeline's proof data -/

/-- The proof data of pipeline 1 on core `c`: the arrays as the region finds them (`V`); after the body at
    point `t` each input's buffer at its block and the outputs' at `outsAt1`; the invariant the class's
    (`ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (`BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5_A t (hcond1_0 t) (hcond1_1 t)], after1_5]
  unfold outsAt1
  unfold out1_A_5
  iintro ⟨HΦ, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ (hcond1_0 t) (hcond1_1 t) (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_A_5 c _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (`triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Stage
-- ==== Proof.Spec.lean ====
/- What the two programs compute, as functions of extended reals: the decoder's layers and its network. -/
module

public import Idealize.ShloMosaic.Lib.Pointwise

@[expose] public section

noncomputable section

namespace Cert.Spec

open Idealize.ShloMosaic

/-- The parity of a coordinate. -/
def par (i : ℕ) : Fin 2 := ⟨i % 2, Nat.mod_lt _ Nat.two_pos⟩

/-- The transposed convolution with a 2 by 2 kernel at stride 2: each input pixel becomes a 2 by 2 square. -/
def deconv {ci co : ℕ} (X : ℕ → ℕ → Fin ci → EReal) (W : Fin ci → Fin co → Fin 2 → Fin 2 → EReal) (b : Fin co → EReal) :
    ℕ → ℕ → Fin co → EReal :=
  fun i j o => (∑ c, X (i / 2) (j / 2) c * W c o (par i) (par j)) + b o

/-- A hidden layer: the transposed convolution, negative values replaced by zero. -/
def layer {ci co : ℕ} (W : Fin ci → Fin co → Fin 2 → Fin 2 → EReal) (b : Fin co → EReal) (X : ℕ → ℕ → Fin ci → EReal) :
    ℕ → ℕ → Fin co → EReal :=
  fun i j o => max (deconv X W b i j o) 0

/-- The parity of an even position; -/
theorem par_even (i : ℕ) : par (2 * i) = 0 := Fin.ext (by show 2 * i % 2 = 0; omega)
/-- of an odd one; -/
theorem par_odd (i : ℕ) : par (2 * i + 1) = 1 := Fin.ext (by show (2 * i + 1) % 2 = 1; omega)
/-- the half of an even position; -/
theorem half_even (i : ℕ) : 2 * i / 2 = i := by omega
/-- and of an odd one, rounded down. -/
theorem half_odd (i : ℕ) : (2 * i + 1) / 2 = i := by omega

section
variable {ci co : ℕ} (X : ℕ → ℕ → Fin ci → EReal) (W : Fin ci → Fin co → Fin 2 → Fin 2 → EReal) (b : Fin co → EReal) (i j : ℕ) (o : Fin co)
/-- A transposed convolution at an odd row and an odd column; -/
theorem deconv_11 : deconv X W b (2 * i + 1) (2 * j + 1) o = (∑ c, X i j c * W c o 1 1) + b o := by
  simp only [deconv, par_odd, half_odd]
/-- at an odd row and an even column; -/
theorem deconv_10 : deconv X W b (2 * i + 1) (2 * j) o = (∑ c, X i j c * W c o 1 0) + b o := by
  simp only [deconv, par_odd, half_odd, par_even, half_even]
/-- at an even row and an odd column; -/
theorem deconv_01 : deconv X W b (2 * i) (2 * j + 1) o = (∑ c, X i j c * W c o 0 1) + b o := by
  simp only [deconv, par_odd, half_odd, par_even, half_even]
/-- at an even row and an even column. -/
theorem deconv_00 : deconv X W b (2 * i) (2 * j) o = (∑ c, X i j c * W c o 0 0) + b o := by
  simp only [deconv, par_even, half_even]
/-- A layer at an odd row and an odd column; -/
theorem layer_11 : layer W b X (2 * i + 1) (2 * j + 1) o = max ((∑ c, X i j c * W c o 1 1) + b o) 0 :=
  congrArg (max · 0) (deconv_11 X W b i j o)
/-- at an odd row and an even column; -/
theorem layer_10 : layer W b X (2 * i + 1) (2 * j) o = max ((∑ c, X i j c * W c o 1 0) + b o) 0 :=
  congrArg (max · 0) (deconv_10 X W b i j o)
/-- at an even row and an odd column; -/
theorem layer_01 : layer W b X (2 * i) (2 * j + 1) o = max ((∑ c, X i j c * W c o 0 1) + b o) 0 :=
  congrArg (max · 0) (deconv_01 X W b i j o)
/-- at an even row and an even column. -/
theorem layer_00 : layer W b X (2 * i) (2 * j) o = max ((∑ c, X i j c * W c o 0 0) + b o) 0 :=
  congrArg (max · 0) (deconv_00 X W b i j o)
end

/-- The decoder's weights: six transposed convolutions. -/
structure Net where
  W1 : Fin 64 → Fin 128 → Fin 2 → Fin 2 → EReal
  b1 : Fin 128 → EReal
  W2 : Fin 128 → Fin 128 → Fin 2 → Fin 2 → EReal
  b2 : Fin 128 → EReal
  W3 : Fin 128 → Fin 64 → Fin 2 → Fin 2 → EReal
  b3 : Fin 64 → EReal
  W4 : Fin 64 → Fin 64 → Fin 2 → Fin 2 → EReal
  b4 : Fin 64 → EReal
  W5 : Fin 64 → Fin 32 → Fin 2 → Fin 2 → EReal
  b5 : Fin 32 → EReal
  W6 : Fin 32 → Fin 3 → Fin 2 → Fin 2 → EReal
  b6 : Fin 3 → EReal

/-- The decoder's output before the logistic function, at row `i`, column `j` and channel `o` of a box's patch. -/
def Net.logit (N : Net) (z : Fin 64 → EReal) : ℕ → ℕ → Fin 3 → EReal :=
  deconv (layer N.W5 N.b5 (layer N.W4 N.b4 (layer N.W3 N.b3 (layer N.W2 N.b2 (layer N.W1 N.b1 fun _ _ => z))))) N.W6 N.b6

/-- A weight array and a bias array as functions of their coordinates. -/
def weights {ci co : ℕ} (w : (⟨4, ![ci, co, 2, 2]⟩ : Shape).Idx → EReal) : Fin ci → Fin co → Fin 2 → Fin 2 → EReal :=
  fun c o a b => w (ix4 c o a b)
/-- A bias, by its channel. -/
def bias {co : ℕ} (b : (⟨1, ![co]⟩ : Shape).Idx → EReal) : Fin co → EReal := fun o => b (ix1 o)

/-- A layer read in the order weight, input. -/
theorem deconv_swap {ci co : ℕ} (Y : ℕ → ℕ → Fin ci → EReal) (w : (⟨4, ![ci, co, 2, 2]⟩ : Shape).Idx → EReal) (b : (⟨1, ![co]⟩ : Shape).Idx → EReal)
    (i j : ℕ) (o : Fin co) (x : Fin ci → EReal) (hx : ∀ c, x c = Y (i / 2) (j / 2) c) :
    (∑ c, w (ix4 c o (par i) (par j)) * x c) + b (ix1 o) = deconv Y (weights w) (bias b) i j o := by
  unfold deconv
  refine congrArg (· + b (ix1 o)) (Finset.sum_congr rfl fun c _ => ?_)
  rw [mul_comm, hx]
  rfl

/-- Weights packed in the columns of a matrix, the four squares' positions one after the other. -/
def packed {ci co : ℕ} (w : (⟨2, ![ci, 4 * co]⟩ : Shape).Idx → EReal) : Fin ci → Fin co → Fin 2 → Fin 2 → EReal :=
  fun c o a b => w (ix2 c ⟨(2 * a.val + b.val) * co + o.val, by
    have : 2 * a.val + b.val ≤ 3 := by omega
    have := Nat.mul_le_mul_right co this
    have := o.isLt
    omega⟩)

/-- The first quarter of a packed weight's columns is the tap at offset (0, 0). -/
theorem packed_00 {ci co : ℕ} (w : (⟨2, ![ci, 4 * co]⟩ : Shape).Idx → EReal) (c : Fin ci) (o : Fin co) :
    packed w c o 0 0 = w (ix2 c ⟨o.val, by omega⟩) :=
  congrArg (fun k => w (ix2 c k)) (Fin.ext (by show (2 * 0 + 0) * co + o.val = o.val; omega))

/-- Weights as four matrices. -/
def stacked {ci co : ℕ} (w : (⟨3, ![4, ci, co]⟩ : Shape).Idx → EReal) : Fin ci → Fin co → Fin 2 → Fin 2 → EReal :=
  fun c o a b => w (ix3 ⟨2 * a.val + b.val, by omega⟩ c o)

/-- A bias row. -/
def row {co : ℕ} (b : (⟨2, ![1, co]⟩ : Shape).Idx → EReal) : Fin co → EReal := fun o => b (ix2 0 o)

/-- The number that a comparison's bit converts to: one where the words agree, zero elsewhere. -/
theorem bit_value (a b : BitVec 32) :
    FloatOps.sitofp (F := Ideal) .f32 (BitVec.setWidth 32 (IntOp.cmpi .eq a b)) = if a = b then 1 else 0 := by
  show ((((BitVec.setWidth 32 (BitVec.ofBool (decide (a = b)))).toInt : ℤ) : ℝ) : EReal) = _
  by_cases h : a = b <;> simp [h]

/-- A sum against the indicator of one index is the value there. -/
theorem sum_mul_one_hot {n : ℕ} (f : Fin n → EReal) (P : Fin n → Prop) [DecidablePred P] (k : Fin n) (hk : ∀ r, P r ↔ r = k) :
    ∑ r, f r * (if P r then 1 else 0) = f k := by
  simp only [hk]
  rw [Finset.sum_eq_single k (fun r _ h => by rw [if_neg h, mul_zero]) (fun h => absurd (Finset.mem_univ _) h), if_pos rfl, mul_one]

/-- The same with the indicator first. -/
theorem sum_one_hot_mul {n : ℕ} (f : Fin n → EReal) (P : Fin n → Prop) [DecidablePred P] (k : Fin n) (hk : ∀ r, P r ↔ r = k) :
    ∑ r, (if P r then 1 else 0) * f r = f k := by
  simp only [mul_comm _ (f _)]
  exact sum_mul_one_hot f P k hk

/-- A sum against the indicator of no index is zero. -/
theorem sum_mul_none {n : ℕ} (f : Fin n → EReal) (P : Fin n → Prop) [DecidablePred P] (hk : ∀ r, ¬ P r) :
    ∑ r, f r * (if P r then (1 : EReal) else 0) = 0 :=
  Finset.sum_eq_zero fun r _ => by rw [if_neg (hk r), mul_zero]

/-- The triangle function: one minus the distance of two coordinates, zero where they are more than one apart. -/
def tri (p q : EReal) : EReal := max (1 - FloatOps.absf (F := Ideal) (φ := .f32) (p - q)) 0

/-- The source coordinate, along one axis, of the canvas's pixel `i` for a box with the given centre and size. -/
def coord (cen size : EReal) (i : ℕ) : EReal :=
  ((Ideal.div (FloatOps.sitofp (F := Ideal) .f32 (BitVec.ofNat 32 i) + Ideal.ofBits .f32 1056964608#32) (Ideal.ofBits .f32 1119879168#32) *
        Ideal.ofBits .f32 1073741824#32 - 1) * Ideal.div 1 (size + Ideal.ofBits .f32 814313567#32) +
      (1 - Ideal.ofBits .f32 1073741824#32 * cen) * Ideal.div 1 (size + Ideal.ofBits .f32 814313567#32) + 1) *
    Ideal.ofBits .f32 1056964608#32 * Ideal.ofBits .f32 1115684864#32 - Ideal.ofBits .f32 1056964608#32

/-- The depth that an absent box counts with: minus one thousand. -/
def absent : EReal := Ideal.ofBits .f32 3296329728#32

end Cert.Spec
-- ==== Proof.KernelIdeal.SampleValue.lean ====
/- The sampling body at the extended reals: what it leaves in its output block. -/
module

public import proofs.«01_k».proof.Proof.KernelIdeal.Sample
public import proofs.«01_k».proof.Proof.Spec

@[expose] public section

set_option maxRecDepth 16384

noncomputable section

namespace Cert.KernelIdeal.Stage

open Idealize.ShloMosaic Idealize.ShloMosaic.TcCoe Idealize.SL.Sem Cert.KernelIdeal.Gen Cert.Spec

/-- A box's depth in the softmax: its table entry where it is present, minus one thousand where it is absent or padding. -/
def bodyDepth (x0 : Vec Ideal S1x1x72 .i32) (x3 : Vec Ideal S1x36x1 .f32) (x4 : Vec Ideal S1x72x1 .f32) (k : Fin 72) : EReal :=
  if k.val < 71 then
    if x4 (ix3 0 k 0) = 1 then ∑ r : Fin 36, (if BitVec.ofNat 32 r.val = x0 (ix3 0 0 k) then 1 else 0) * x3 (ix3 0 r 0) else absent
  else absent

/-- The largest of the boxes' depths, as the body folds them. -/
def bodyMax (d : Fin 72 → EReal) : EReal :=
  Finset.fold max (Ideal.ofBits .f32 4286578688#32) (fun x : Fin 72 × Fin 1 => d x.1) Finset.univ

/-- A box's exponential: zero for the padding box. -/
def bodyExp (d : Fin 72 → EReal) (k : Fin 72) : EReal := if k.val < 71 then Ideal.exp (d k - bodyMax d) else 0

/-- A box's weight. -/
def bodyWeight (d : Fin 72 → EReal) (k : Fin 72) : EReal := Ideal.div (bodyExp d k) (∑ l, bodyExp d l)

/-- The bit that separates the boxes from the padding, as a choice. -/
theorem select_valid (k : Fin 72) (a b : EReal) :
    Scalar.select (IntOp.cmpi .slt (BitVec.ofNat 32 k.val) 71#32) a b = if k.val < 71 then a else b := by
  revert k
  intro k
  have h : IntOp.cmpi .slt (BitVec.ofNat 32 k.val) 71#32 = BitVec.ofBool (decide (k.val < 71)) := by
    revert k; decide
  rw [h]
  by_cases hk : k.val < 71 <;> simp [Scalar.select, hk]

/-- The weights that the body computes. -/
theorem weights_apply (x0 : Vec Ideal S1x1x72 .i32) (x3 : Vec Ideal S1x36x1 .f32) (x4 : Vec Ideal S1x72x1 .f32) (k : Fin 72) :
    k1_pay4 x0 x3 x4 (ix2 k 0) = bodyWeight (bodyDepth x0 x3 x4) k := by
  pointwise [k1_pay4]
  simp only [bit_value, select_valid, Fin.sum_univ_one]
  rfl

/-- The chunk's weights are the weights: there is one chunk. -/
theorem chunk_apply (i : grid1.Coords) (x : FVec Ideal S72x1 .f32) (k : Fin 72) : k1_pay6 x (k1_pay5 i) (ix2 k 0) = x (ix2 k 0) := by
  pointwise [k1_pay6, k1_pay5]
  simp only [bit_value]
  refine sum_one_hot_mul (fun r => x (ix2 r 0)) _ k fun r => ?_
  rw [Fin.ext_iff, ← BitVec.toNat_inj]
  simp only [IntOp.addi, Scalar.muli, IntOp.muli, BitVec.toNat_add, BitVec.toNat_mul, BitVec.toNat_ofNat]
  omega

section
variable (c : Dev nD) (i : grid1.Coords) (arg2 : Memref sig .tc .vmem S1x1x72 .i32) (harg2 : arg2.IsWhole) (arg3 : Memref sig .tc .vmem S1x72x64x192 .f32) (harg3 : arg3.IsWhole) (arg4 : Memref sig .tc .vmem S1x72x4 .f32) (harg4 : arg4.IsWhole) (arg5 : Memref sig .tc .vmem S1x36x1 .f32) (harg5 : arg5.IsWhole) (arg6 : Memref sig .tc .vmem S1x72x1 .f32) (harg6 : arg6.IsWhole) (arg7 : Memref sig .tc .vmem S1x3x96x96 .f32) (harg7 : arg7.IsWhole) (hc0 : cond1_0 i) (hc1 : ¬cond1_1 i)
    (x0 : Vec Ideal S1x1x72 .i32) (x1 : Vec Ideal S1x72x64x192 .f32) (x2 : Vec Ideal S1x72x4 .f32) (x3 : Vec Ideal S1x36x1 .f32) (x4 : Vec Ideal S1x72x1 .f32)

/-- What the body leaves at channel `ch`, row `p` and column `q` of the canvas: the boxes' patches, sampled by triangle
    functions along rows and columns, under the boxes' weights. -/
def bodyValue (ch : Fin 3) (p q : Fin 96) : EReal :=
  ∑ k : Fin 72, ∑ s : Fin 64, (∑ r : Fin 64,
    tri (coord (x2 (ix3 0 k 1)) (x2 (ix3 0 k 3)) p.val) (FloatOps.sitofp (F := Ideal) .f32 (BitVec.ofNat 32 r.val)) *
      bodyWeight (bodyDepth x0 x3 x4) k * Ideal.logistic (x1 (ix4 0 k r ⟨64 * ch.val + s.val, by omega⟩))) *
    tri (coord (x2 (ix3 0 k 0)) (x2 (ix3 0 k 2)) q.val) (FloatOps.sitofp (F := Ideal) .f32 (BitVec.ofNat 32 s.val))

/-- The triangle functions along the rows, under the boxes' weights. -/
theorem rows_apply (k : Fin 72) (p : Fin 96) (r : Fin 64) :
    kernelRun1_A.sl.r_5 (F := Ideal) c i arg2 harg2 arg4 harg4 arg5 harg5 arg6 harg6 x0 x2 x3 x4 (ix3 k p r) =
      tri (coord (x2 (ix3 0 k 1)) (x2 (ix3 0 k 3)) p.val) (FloatOps.sitofp (F := Ideal) .f32 (BitVec.ofNat 32 r.val)) *
        bodyWeight (bodyDepth x0 x3 x4) k := by
  unfold kernelRun1_A.sl.r_5 kernelRun1_A.sl.r_1 kernelRun1_A.sl.r_2 kernelRun1_A.sl.r_3 kernelRun1_A.sl.r
  simp only [View.readAt_eq_ld, Memref.IsWhole.read_unread]
  have e0 : View.ld x0 (Rect.unit ![0, 0, 0] S1x1x72.size inb_S1x1x72_S1x1x72_0_0_0) = x0 := View.ld_unit_zero (funext fun a => by fin_cases a <;> rfl) _ _
  have e3 : View.ld x3 (Rect.unit ![0, 0, 0] S1x36x1.size inb_S1x36x1_S1x36x1_0_0_0) = x3 := View.ld_unit_zero (funext fun a => by fin_cases a <;> rfl) _ _
  have e4 : View.ld x4 (Rect.unit ![0, 0, 0] S1x72x1.size inb_S1x72x1_S1x72x1_0_0_0) = x4 := View.ld_unit_zero (funext fun a => by fin_cases a <;> rfl) _ _
  rw [e0, e3, e4]
  pointwise [k1_pay12, k1_pay10, chunk_apply, weights_apply, k1_pay9, k1_pay8, k1_pay7]
  rfl

/-- The triangle functions along the columns. -/
theorem cols_apply (k : Fin 72) (q : Fin 96) (s : Fin 64) :
    kernelRun1_A.sl.r_6 (F := Ideal) c arg4 harg4 x2 (ix3 k s q) =
      tri (coord (x2 (ix3 0 k 0)) (x2 (ix3 0 k 2)) q.val) (FloatOps.sitofp (F := Ideal) .f32 (BitVec.ofNat 32 s.val)) := by
  unfold kernelRun1_A.sl.r_6 kernelRun1_A.sl.r_4
  simp only [View.readAt_eq_ld, Memref.IsWhole.read_unread]
  pointwise [k1_pay13, k1_pay11, k1_pay10, k1_pay7]
  rfl

/-- The blended canvas at an index. -/
theorem blend_apply (ch : Fin 3) (p q : Fin 96) :
    k1_pay2 (kernelRun1_A.sl.r_5 (F := Ideal) c i arg2 harg2 arg4 harg4 arg5 harg5 arg6 harg6 x0 x2 x3 x4)
      (kernelRun1_A.sl.r_6 (F := Ideal) c arg4 harg4 x2) x1 (ix4 0 ch p q) = bodyValue x0 x1 x2 x3 x4 ch p q := by
  unfold bodyValue
  pointwise [k1_pay2, k1_pay1, rows_apply, cols_apply]
  split_ifs with h0 h1 <;>
  · refine Finset.sum_congr rfl fun k _ => Finset.sum_congr rfl fun s _ => ?_
    refine congrArg (· * _) (Finset.sum_congr rfl fun r _ => ?_)
    refine congrArg (fun j => _ * Ideal.logistic (x1 (ix4 0 k r j))) (Fin.ext ?_)
    dsimp only
    omega

/-- What the body leaves in its output block. -/
theorem out1_A_5_eq : out1_A_5 (F := Ideal) c i arg2 harg2 arg3 harg3 arg4 harg4 arg5 harg5 arg6 harg6 arg7 harg7 hc0 hc1 x0 x1 x2 x3 x4 =
    fun y => bodyValue x0 x1 x2 x3 x4 (y 1) (y 2) (y 3) := by
  unfold out1_A_5
  rw [View.read_writes_junk_eq_canon]
  unfold kernelRun1_A
  dsimp only
  have hd : kernelRun1_A.sl.v128 (F := Ideal) c arg3 harg3 x1 = x1 := by
    unfold kernelRun1_A.sl.v128
    simp only [View.readAt_eq_ld, Memref.IsWhole.read_unread]
    exact View.ld_unit_zero (funext fun a => by fin_cases a <;> rfl) _ _
  rw [hd, View.canon_unit_zero (funext fun a => by fin_cases a <;> rfl)]
  funext z
  have z0 : z 0 = (0 : Fin 1) := Subsingleton.elim (α := Fin 1) _ _
  rw [eq_ix4 z, z0]
  exact blend_apply c i arg2 harg2 arg4 harg4 arg5 harg5 arg6 harg6 x0 x1 x2 x3 x4 (z 1) (z 2) (z 3)

end
end Cert.KernelIdeal.Stage
-- ==== Proof.KernelIdeal.DecodeRun.lean ====
/- The decoder region of the program, at any float instance: its body run on whole staging buffers, what the body leaves in the
   output window, and the obligation the pipeline asks of the body at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Stage

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__decoder_kernel` (pipeline 0), at the entry contents `V`   -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): the library lemma
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): the library lemma
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): the library lemma
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): the library lemma
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): the library lemma
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): the library lemma
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): the library lemma
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): the library lemma
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): the library lemma
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): the library lemma
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): the library lemma
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not, for ANY proof
    data whose array is `V`'s (`hA`) and whose body leaves the block in place (`hafter`): the library lemma
    `Dat.before_in_eq_fetched` (unfetched, the index has not moved), the window uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's current staging buffer holds its block at every point, fetched there or not, for ANY proof
    data whose array is `V`'s (`hA`) and whose body leaves the block in place (`hafter`): the library lemma
    `Dat.before_in_eq_fetched` (unfetched, the index has not moved), the window uncut and never idle. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's current staging buffer holds its block at every point, fetched there or not, for ANY proof
    data whose array is `V`'s (`hA`) and whose body leaves the block in place (`hafter`): the library lemma
    `Dat.before_in_eq_fetched` (unfetched, the index has not moved), the window uncut and never idle. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 14, through which its contents are stated (`View.read_writes_of_cover`: the
    choice does not matter). -/
abbrev VO0_14 : View sig .tc .vmem S1x32x64x3x64 .f32 := (Memref.whole cc0_stg14_0 : Memref sig .tc .vmem S1x32x64x3x64 .f32).view
/-- Each window's current staging memref at point `t`, spelled as the pipeline passes it (`bodyAt0`), and its wholeness. -/
abbrev ms0_0 (t : Fin cfg0.N) : Memref sig .tc .vmem S1x1x32 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S144x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x128x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x64x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x64x32 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x32 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S4x32x3 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x3 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x32x64x3x64 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S32x2x2x128 .f32 := Memref.whole cc0_scratch0
abbrev scM0_1 : Memref sig .tc .vmem S32x4x4x128 .f32 := Memref.whole cc0_scratch1
abbrev scM0_2 : Memref sig .tc .vmem S32x8x8x64 .f32 := Memref.whole cc0_scratch2
abbrev scM0_3 : Memref sig .tc .vmem S32x16x16x64 .f32 := Memref.whole cc0_scratch3
abbrev scM0_4 : Memref sig .tc .vmem S32x32x32x32 .f32 := Memref.whole cc0_scratch4

/-- The frame kit's invariant with the scratch operands as memrefs owned at some contents (`Gen.scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f)) ∗ (∃ r, prngReg c r)) := by
  unfold Pipeline.ΦA; rw [scopedRest0_eq]; simp only [scM0_0, scM0_1, scM0_2, scM0_3, scM0_4, owns_whole]; try rfl

-- (the run's proof term is large)
set_option maxHeartbeats 1000000 in set_option sl_exec.stridedRows true in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x1x32 .i32) (harg1 : arg1.IsWhole) (arg2 : Memref sig .tc .vmem S144x64 .f32) (harg2 : arg2.IsWhole) (arg3 : Memref sig .tc .vmem S64x512 .f32) (harg3 : arg3.IsWhole) (arg4 : Memref sig .tc .vmem S1x128 .f32) (harg4 : arg4.IsWhole) (arg5 : Memref sig .tc .vmem S128x512 .f32) (harg5 : arg5.IsWhole) (arg6 : Memref sig .tc .vmem S1x128 .f32) (harg6 : arg6.IsWhole) (arg7 : Memref sig .tc .vmem S4x128x64 .f32) (harg7 : arg7.IsWhole) (arg8 : Memref sig .tc .vmem S1x64 .f32) (harg8 : arg8.IsWhole) (arg9 : Memref sig .tc .vmem S4x64x64 .f32) (harg9 : arg9.IsWhole) (arg10 : Memref sig .tc .vmem S1x64 .f32) (harg10 : arg10.IsWhole) (arg11 : Memref sig .tc .vmem S4x64x32 .f32) (harg11 : arg11.IsWhole) (arg12 : Memref sig .tc .vmem S1x32 .f32) (harg12 : arg12.IsWhole) (arg13 : Memref sig .tc .vmem S4x32x3 .f32) (harg13 : arg13.IsWhole) (arg14 : Memref sig .tc .vmem S1x3 .f32) (harg14 : arg14.IsWhole) (arg15 : Memref sig .tc .vmem S1x32x64x3x64 .f32) (harg15 : arg15.IsWhole) (arg16 : Memref sig .tc .vmem S32x2x2x128 .f32) (harg16 : arg16.IsWhole) (arg17 : Memref sig .tc .vmem S32x4x4x128 .f32) (harg17 : arg17.IsWhole) (arg18 : Memref sig .tc .vmem S32x8x8x64 .f32) (harg18 : arg18.IsWhole) (arg19 : Memref sig .tc .vmem S32x16x16x64 .f32) (harg19 : arg19.IsWhole) (arg20 : Memref sig .tc .vmem S32x32x32x32 .f32) (harg20 : arg20.IsWhole)
    (x0 : Vec F S1x1x32 .i32) (x1 : Vec F S144x64 .f32) (x2 : Vec F S64x512 .f32) (x3 : Vec F S1x128 .f32) (x4 : Vec F S128x512 .f32) (x5 : Vec F S1x128 .f32) (x6 : Vec F S4x128x64 .f32) (x7 : Vec F S1x64 .f32) (x8 : Vec F S4x64x64 .f32) (x9 : Vec F S1x64 .f32) (x10 : Vec F S4x64x32 .f32) (x11 : Vec F S1x32 .f32) (x12 : Vec F S4x32x3 .f32) (x13 : Vec F S1x3 .f32) :
    { L14 : List (View.Piece (Elt F) S1x32x64x3x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__decoder_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E K => ?run⟩
  case run =>
    simp only [cc0__decoder_kernel_eq_skeleton]; unfold cc0__decoder_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Regions

end Cert.KernelIdeal.Stage
-- ==== Proof.KernelIdeal.Decode.lean ====
/- The decoder region of the program, at any float instance: its body run on whole staging buffers, what the body leaves in the
   output window, and the obligation the pipeline asks of the body at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.DecodeRun

@[expose] public section

set_option maxRecDepth 16384

noncomputable section

namespace Cert.KernelIdeal.Stage

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-- Two pieces, the odd rows and the even rows of the block, cover every index of it. -/
theorem cover_two_rows {Val : EltTy → Type} (p q) (y : S1x32x64x3x64.Idx) :
    ∃ pc ∈ ([⟨⟨⟨![0, 0, 1, 0, 0], ![1, 32, 32, 3, 64], ![1, 1, 2, 1, 1], inb_S1x32x64x3x64_S1x32x32x3x64_0_0_1_0_0_s_1_1_2_1_1⟩, spos_1_1_2_1_1⟩, p⟩,
        ⟨⟨⟨![0, 0, 0, 0, 0], ![1, 32, 32, 3, 64], ![1, 1, 2, 1, 1], inb_S1x32x64x3x64_S1x32x32x3x64_0_0_0_0_0_s_1_1_2_1_1⟩, spos_1_1_2_1_1⟩, q⟩] : List (View.Piece Val S1x32x64x3x64 .f32)), y ∈ pc.1.set := by
  have h0 : (y 0).val < 1 := (y 0).isLt
  have h1 : (y 1).val < 32 := (y 1).isLt
  have h2 : (y 2).val < 64 := (y 2).isLt
  have h3 : (y 3).val < 3 := (y 3).isLt
  have h4 : (y 4).val < 64 := (y 4).isLt
  rcases Nat.mod_two_eq_zero_or_one (y 2).val with h | h
  · refine ⟨_, List.mem_cons_of_mem _ (List.mem_cons_self ..), (LoadRect.mem_set _).mpr fun a => ?_⟩
    match a with
    | ⟨0, _⟩ => exact ⟨(y 0).val, h0, (by show (y 0).val = 0 + 1 * _; omega)⟩
    | ⟨1, _⟩ => exact ⟨(y 1).val, h1, (by show (y 1).val = 0 + 1 * _; omega)⟩
    | ⟨2, _⟩ => exact ⟨(y 2).val / 2, (by show _ < 32; omega), (by show (y 2).val = 0 + 2 * _; omega)⟩
    | ⟨3, _⟩ => exact ⟨(y 3).val, h3, (by show (y 3).val = 0 + 1 * _; omega)⟩
    | ⟨4, _⟩ => exact ⟨(y 4).val, h4, (by show (y 4).val = 0 + 1 * _; omega)⟩
  · refine ⟨_, List.mem_cons_self .., (LoadRect.mem_set _).mpr fun a => ?_⟩
    match a with
    | ⟨0, _⟩ => exact ⟨(y 0).val, h0, (by show (y 0).val = 0 + 1 * _; omega)⟩
    | ⟨1, _⟩ => exact ⟨(y 1).val, h1, (by show (y 1).val = 0 + 1 * _; omega)⟩
    | ⟨2, _⟩ => exact ⟨(y 2).val / 2, (by show _ < 32; omega), (by show (y 2).val = 1 + 2 * _; omega)⟩
    | ⟨3, _⟩ => exact ⟨(y 3).val, h3, (by show (y 3).val = 0 + 1 * _; omega)⟩
    | ⟨4, _⟩ => exact ⟨(y 4).val, h4, (by show (y 4).val = 0 + 1 * _; omega)⟩

/-- The run's pieces for the output window cover its block. -/
theorem cover0_A_14 (c : Dev nD) (i : grid0.Coords) (arg1 : Memref sig .tc .vmem S1x1x32 .i32) (harg1 : arg1.IsWhole) (arg2 : Memref sig .tc .vmem S144x64 .f32) (harg2 : arg2.IsWhole) (arg3 : Memref sig .tc .vmem S64x512 .f32) (harg3 : arg3.IsWhole) (arg4 : Memref sig .tc .vmem S1x128 .f32) (harg4 : arg4.IsWhole) (arg5 : Memref sig .tc .vmem S128x512 .f32) (harg5 : arg5.IsWhole) (arg6 : Memref sig .tc .vmem S1x128 .f32) (harg6 : arg6.IsWhole) (arg7 : Memref sig .tc .vmem S4x128x64 .f32) (harg7 : arg7.IsWhole) (arg8 : Memref sig .tc .vmem S1x64 .f32) (harg8 : arg8.IsWhole) (arg9 : Memref sig .tc .vmem S4x64x64 .f32) (harg9 : arg9.IsWhole) (arg10 : Memref sig .tc .vmem S1x64 .f32) (harg10 : arg10.IsWhole) (arg11 : Memref sig .tc .vmem S4x64x32 .f32) (harg11 : arg11.IsWhole) (arg12 : Memref sig .tc .vmem S1x32 .f32) (harg12 : arg12.IsWhole) (arg13 : Memref sig .tc .vmem S4x32x3 .f32) (harg13 : arg13.IsWhole) (arg14 : Memref sig .tc .vmem S1x3 .f32) (harg14 : arg14.IsWhole) (arg15 : Memref sig .tc .vmem S1x32x64x3x64 .f32) (harg15 : arg15.IsWhole) (arg16 : Memref sig .tc .vmem S32x2x2x128 .f32) (harg16 : arg16.IsWhole) (arg17 : Memref sig .tc .vmem S32x4x4x128 .f32) (harg17 : arg17.IsWhole) (arg18 : Memref sig .tc .vmem S32x8x8x64 .f32) (harg18 : arg18.IsWhole) (arg19 : Memref sig .tc .vmem S32x16x16x64 .f32) (harg19 : arg19.IsWhole) (arg20 : Memref sig .tc .vmem S32x32x32x32 .f32) (harg20 : arg20.IsWhole)
    (x0 : Vec F S1x1x32 .i32) (x1 : Vec F S144x64 .f32) (x2 : Vec F S64x512 .f32) (x3 : Vec F S1x128 .f32) (x4 : Vec F S128x512 .f32) (x5 : Vec F S1x128 .f32) (x6 : Vec F S4x128x64 .f32) (x7 : Vec F S1x64 .f32) (x8 : Vec F S4x64x64 .f32) (x9 : Vec F S1x64 .f32) (x10 : Vec F S4x64x32 .f32) (x11 : Vec F S1x32 .f32) (x12 : Vec F S4x32x3 .f32) (x13 : Vec F S1x3 .f32) (y : S1x32x64x3x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13).1, y ∈ pc.1.set := by
  unfold kernelRun0_A
  dsimp only
  exact cover_two_rows _ _ y

/-- What the run leaves in output 14's staging buffer: its pieces read back over junk. -/
def out0_A_14 (c : Dev nD) (i : grid0.Coords) (arg1 : Memref sig .tc .vmem S1x1x32 .i32) (harg1 : arg1.IsWhole) (arg2 : Memref sig .tc .vmem S144x64 .f32) (harg2 : arg2.IsWhole) (arg3 : Memref sig .tc .vmem S64x512 .f32) (harg3 : arg3.IsWhole) (arg4 : Memref sig .tc .vmem S1x128 .f32) (harg4 : arg4.IsWhole) (arg5 : Memref sig .tc .vmem S128x512 .f32) (harg5 : arg5.IsWhole) (arg6 : Memref sig .tc .vmem S1x128 .f32) (harg6 : arg6.IsWhole) (arg7 : Memref sig .tc .vmem S4x128x64 .f32) (harg7 : arg7.IsWhole) (arg8 : Memref sig .tc .vmem S1x64 .f32) (harg8 : arg8.IsWhole) (arg9 : Memref sig .tc .vmem S4x64x64 .f32) (harg9 : arg9.IsWhole) (arg10 : Memref sig .tc .vmem S1x64 .f32) (harg10 : arg10.IsWhole) (arg11 : Memref sig .tc .vmem S4x64x32 .f32) (harg11 : arg11.IsWhole) (arg12 : Memref sig .tc .vmem S1x32 .f32) (harg12 : arg12.IsWhole) (arg13 : Memref sig .tc .vmem S4x32x3 .f32) (harg13 : arg13.IsWhole) (arg14 : Memref sig .tc .vmem S1x3 .f32) (harg14 : arg14.IsWhole) (arg15 : Memref sig .tc .vmem S1x32x64x3x64 .f32) (harg15 : arg15.IsWhole) (arg16 : Memref sig .tc .vmem S32x2x2x128 .f32) (harg16 : arg16.IsWhole) (arg17 : Memref sig .tc .vmem S32x4x4x128 .f32) (harg17 : arg17.IsWhole) (arg18 : Memref sig .tc .vmem S32x8x8x64 .f32) (harg18 : arg18.IsWhole) (arg19 : Memref sig .tc .vmem S32x16x16x64 .f32) (harg19 : arg19.IsWhole) (arg20 : Memref sig .tc .vmem S32x32x32x32 .f32) (harg20 : arg20.IsWhole)
    (x0 : Vec F S1x1x32 .i32) (x1 : Vec F S144x64 .f32) (x2 : Vec F S64x512 .f32) (x3 : Vec F S1x128 .f32) (x4 : Vec F S128x512 .f32) (x5 : Vec F S1x128 .f32) (x6 : Vec F S4x128x64 .f32) (x7 : Vec F S1x64 .f32) (x8 : Vec F S4x64x64 .f32) (x9 : Vec F S1x64 .f32) (x10 : Vec F S4x64x32 .f32) (x11 : Vec F S1x32 .f32) (x12 : Vec F S4x32x3 .f32) (x13 : Vec F S1x3 .f32) : Vec F S1x32x64x3x64 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13).1)

/-! ## What the outputs hold after each point -/

/-- What the outputs' staging buffers hold after the body at point `t`: the run's contents at
    the point's memrefs and input blocks. -/
def outsAt0 (c : Dev nD) (t : Fin cfg0.N) : Vec F S1x32x64x3x64 .f32 :=
  out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)

/-! ## The pipeline's proof data -/

/-- The proof data of pipeline 0 on core `c`: the arrays as the region finds them (`V`); after the body at
    point `t` each input's buffer at its block and the outputs' at `outsAt0`; the invariant the class's
    (`ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d

/-! ## The body obligation, at a generic point -/

/-- What the body is called with at point `t` (`BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14]
  rw [show (dat0 V c).Φ t.castSucc = Pipeline.ΦA spec0 c from rfl, PhiA0_eq]
  unfold outsAt0
  unfold out0_A_14
  iintro ⟨⟨⟨HS0, HS1, HS2, HS3, HS4, HR6, HR7, HR8, HR9, HR10, HR11, HR12, HR13, HR14, HR15, HR16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_A c (grid0.coords t) _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, ⟨%e14, H14⟩, HS0, HS1, HS2, HS3, HS4⟩
  isplitl [HS0 HS1 HS2 HS3 HS4 HR6 HR7 HR8 HR9 HR10 HR11 HR12 HR13 HR14 HR15 HR16 Hg]
  · isplitl [HS0 HS1 HS2 HS3 HS4 HR6 HR7 HR8 HR9 HR10 HR11 HR12 HR13 HR14 HR15 HR16]
    · isplitl [HS0]
      · iexact HS0
      isplitl [HS1]
      · iexact HS1
      isplitl [HS2]
      · iexact HS2
      isplitl [HS3]
      · iexact HS3
      isplitl [HS4]
      · iexact HS4
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      iexact HR16
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  unfold owns; iexists _; isplitr
  swap; · iexact H14
  ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Stage
-- ==== Proof.Interleave.lean ====
/- Interleaved stores: a buffer written as four strided quarters (the two parities of the rows by the two parities of
   the columns) is read back as the one array whose quarters they are; and a block written as its odd and even rows. -/
module

public import Idealize.ShloMosaic.Lib.Pointwise
public import Idealize.ShloMosaic.Lib.Pipeline.ValueKit

@[expose] public section

set_option maxRecDepth 16384

noncomputable section

namespace Cert.Interleave

open Idealize.ShloMosaic

variable {Val : EltTy → Type} [∀ e, Nonempty (Val e)] {sig : RefSig} {κ : Kind} {sp : Space} {e : EltTy}

/-- The rectangle of the rows of parity `a` and the columns of parity `b`. -/
abbrev quarter {N h H co : ℕ} (a b : ℕ)
    (inb : ∀ c : Fin 4, (![N, h, h, co] : Fin 4 → ℕ) c = 0 ∨ (![0, a, b, 0] : Fin 4 → ℕ) c + (![1, 2, 2, 1] : Fin 4 → ℕ) c *
      ((![N, h, h, co] : Fin 4 → ℕ) c - 1) < (![N, H, H, co] : Fin 4 → ℕ) c)
    (pos : ∀ c : Fin 4, 0 < (![1, 2, 2, 1] : Fin 4 → ℕ) c) : Rect ⟨4, ![N, H, H, co]⟩ :=
  ⟨⟨![0, a, b, 0], ![N, h, h, co], ![1, 2, 2, 1], inb⟩, pos⟩

/-- Reading the whole of a buffer written in four quarters gives the array `G` that each quarter is a quarter of. -/
theorem read_quarters {N h H co : ℕ} (hH : H = 2 * h) (v : View sig κ sp ⟨4, ![N, H, H, co]⟩ e)
    (G : (⟨4, ![N, H, H, co]⟩ : Shape).Idx → Val e) (i11 i10 i01 i00) (q11 q10 q01 q00)
    (P11 P10 P01 P00 : (⟨4, ![N, h, h, co]⟩ : Shape).Idx → Val e) (iu)
    (h11 : ∀ n i j o, P11 (ix4 n i j o) = G (ix4 n ⟨2 * i.val + 1, by omega⟩ ⟨2 * j.val + 1, by omega⟩ o))
    (h10 : ∀ n i j o, P10 (ix4 n i j o) = G (ix4 n ⟨2 * i.val + 1, by omega⟩ ⟨2 * j.val, by omega⟩ o))
    (h01 : ∀ n i j o, P01 (ix4 n i j o) = G (ix4 n ⟨2 * i.val, by omega⟩ ⟨2 * j.val + 1, by omega⟩ o))
    (h00 : ∀ n i j o, P00 (ix4 n i j o) = G (ix4 n ⟨2 * i.val, by omega⟩ ⟨2 * j.val, by omega⟩ o)) :
    v.readCov [⟨quarter (h := h) 1 1 i11 q11, P11⟩, ⟨quarter (h := h) 1 0 i10 q10, P10⟩,
        ⟨quarter (h := h) 0 1 i01 q01, P01⟩, ⟨quarter (h := h) 0 0 i00 q00, P00⟩]
      (Rect.unit ![0, 0, 0, 0] ![N, H, H, co] iu).toLoadRect = G := by
  have cover : ∀ y : (⟨4, ![N, H, H, co]⟩ : Shape).Idx, ∃ p ∈ ([⟨quarter (h := h) 1 1 i11 q11, P11⟩, ⟨quarter (h := h) 1 0 i10 q10, P10⟩,
        ⟨quarter (h := h) 0 1 i01 q01, P01⟩, ⟨quarter (h := h) 0 0 i00 q00, P00⟩] : List (View.Piece Val ⟨4, ![N, H, H, co]⟩ e)), y ∈ p.1.set := by
    intro y
    have y0 : (y 0).val < N := (y 0).isLt
    have y1 : (y 1).val < H := (y 1).isLt
    have y2 : (y 2).val < H := (y 2).isLt
    have y3 : (y 3).val < co := (y 3).isLt
    have mem : ∀ (a b : ℕ) (inb) (pos), (y 1).val % 2 = a → (y 2).val % 2 = b →
        y ∈ (quarter (N := N) (h := h) (H := H) (co := co) a b inb pos).set := fun a b inb pos ha hb => by
      refine (LoadRect.mem_set _).mpr fun c => ?_
      match c with
      | ⟨0, _⟩ => exact ⟨(y 0).val, y0, (by show (y 0).val = 0 + 1 * _; omega)⟩
      | ⟨1, _⟩ => exact ⟨(y 1).val / 2, (by show _ < h; omega), (by show (y 1).val = a + 2 * _; omega)⟩
      | ⟨2, _⟩ => exact ⟨(y 2).val / 2, (by show _ < h; omega), (by show (y 2).val = b + 2 * _; omega)⟩
      | ⟨3, _⟩ => exact ⟨(y 3).val, y3, (by show (y 3).val = 0 + 1 * _; omega)⟩
    rcases Nat.mod_two_eq_zero_or_one (y 1).val with ha | ha <;>
      rcases Nat.mod_two_eq_zero_or_one (y 2).val with hb | hb
    · exact ⟨_, .tail _ (.tail _ (.tail _ (.head _))), mem 0 0 _ _ ha hb⟩
    · exact ⟨_, .tail _ (.tail _ (.head _)), mem 0 1 _ _ ha hb⟩
    · exact ⟨_, .tail _ (.head _), mem 1 0 _ _ ha hb⟩
    · exact ⟨_, .head _, mem 1 1 _ _ ha hb⟩
  rw [View.readCov_eq_canon_ld _ _ (Rect.unit ![0, 0, 0, 0] ![N, H, H, co] iu) cover]
  funext y
  have hy : View.ld (View.canon ([⟨quarter (h := h) 1 1 i11 q11, P11⟩, ⟨quarter (h := h) 1 0 i10 q10, P10⟩,
        ⟨quarter (h := h) 0 1 i01 q01, P01⟩, ⟨quarter (h := h) 0 0 i00 q00, P00⟩] : List (View.Piece Val ⟨4, ![N, H, H, co]⟩ e)))
        (Rect.unit ![0, 0, 0, 0] ![N, H, H, co] iu) y = View.canon ([⟨quarter (h := h) 1 1 i11 q11, P11⟩, ⟨quarter (h := h) 1 0 i10 q10, P10⟩,
        ⟨quarter (h := h) 0 1 i01 q01, P01⟩, ⟨quarter (h := h) 0 0 i00 q00, P00⟩] : List (View.Piece Val ⟨4, ![N, H, H, co]⟩ e)) y := by
    refine congrArg (View.canon ([⟨quarter (h := h) 1 1 i11 q11, P11⟩, ⟨quarter (h := h) 1 0 i10 q10, P10⟩,
        ⟨quarter (h := h) 0 1 i01 q01, P01⟩, ⟨quarter (h := h) 0 0 i00 q00, P00⟩] : List (View.Piece Val ⟨4, ![N, H, H, co]⟩ e)))
      (funext fun c => Fin.ext ?_)
    match c with
    | ⟨0, _⟩ => exact (Nat.zero_add _).trans (Nat.one_mul _)
    | ⟨1, _⟩ => exact (Nat.zero_add _).trans (Nat.one_mul _)
    | ⟨2, _⟩ => exact (Nat.zero_add _).trans (Nat.one_mul _)
    | ⟨3, _⟩ => exact (Nat.zero_add _).trans (Nat.one_mul _)
  rw [hy]
  have piece : ∀ (a b : ℕ) (inb) (pos) (P : (⟨4, ![N, h, h, co]⟩ : Shape).Idx → Val e) (ha : a < 2) (hb : b < 2)
      (hP : ∀ n i j o, P (ix4 n i j o) = G (ix4 n ⟨2 * i.val + a, by omega⟩ ⟨2 * j.val + b, by omega⟩ o)),
      ∀ x, P x = G ((quarter (N := N) (h := h) (H := H) (co := co) a b inb pos).emb x) := fun a b inb pos P ha hb hP x => by
    rw [eq_ix4 x]
    refine (hP _ _ _ _).trans (congrArg G (funext fun c => Fin.ext ?_))
    match c with
    | ⟨0, _⟩ => show (x 0).val = 0 + 1 * (x 0).val; omega
    | ⟨1, _⟩ => show 2 * (x 1).val + a = a + 2 * (x 1).val; omega
    | ⟨2, _⟩ => show 2 * (x 2).val + b = b + 2 * (x 2).val; omega
    | ⟨3, _⟩ => show (x 3).val = 0 + 1 * (x 3).val; omega
  refine View.canon_apply_of_pieces G _ ?_ y (cover y)
  intro p hp
  rcases List.mem_cons.mp hp with rfl | hp
  · exact piece 1 1 _ _ P11 (by omega) (by omega) h11
  rcases List.mem_cons.mp hp with rfl | hp
  · exact piece 1 0 _ _ P10 (by omega) (by omega) h10
  rcases List.mem_cons.mp hp with rfl | hp
  · exact piece 0 1 _ _ P01 (by omega) (by omega) h01
  rcases List.mem_cons.mp hp with rfl | hp
  · exact piece 0 0 _ _ P00 (by omega) (by omega) h00
  · cases hp

/-- The rectangle of the rows of parity `a` of a block. -/
abbrev rows {N h H C W : ℕ} (a : ℕ)
    (inb : ∀ c : Fin 5, (![1, N, h, C, W] : Fin 5 → ℕ) c = 0 ∨ (![0, 0, a, 0, 0] : Fin 5 → ℕ) c + (![1, 1, 2, 1, 1] : Fin 5 → ℕ) c *
      ((![1, N, h, C, W] : Fin 5 → ℕ) c - 1) < (![1, N, H, C, W] : Fin 5 → ℕ) c)
    (pos : ∀ c : Fin 5, 0 < (![1, 1, 2, 1, 1] : Fin 5 → ℕ) c) : Rect ⟨5, ![1, N, H, C, W]⟩ :=
  ⟨⟨![0, 0, a, 0, 0], ![1, N, h, C, W], ![1, 1, 2, 1, 1], inb⟩, pos⟩

/-- A block written as its odd rows and its even rows holds the array `G` whose rows they are. -/
theorem canon_rows {N h H C W : ℕ} (hH : H = 2 * h) (G : (⟨5, ![1, N, H, C, W]⟩ : Shape).Idx → Val e) (i1 i0 q1 q0)
    (P1 P0 : (⟨5, ![1, N, h, C, W]⟩ : Shape).Idx → Val e)
    (h1 : ∀ n i k x, P1 (ix5 0 n i k x) = G (ix5 0 n ⟨2 * i.val + 1, by omega⟩ k x))
    (h0 : ∀ n i k x, P0 (ix5 0 n i k x) = G (ix5 0 n ⟨2 * i.val, by omega⟩ k x)) :
    View.canon ([⟨rows (h := h) 1 i1 q1, P1⟩, ⟨rows (h := h) 0 i0 q0, P0⟩] : List (View.Piece Val ⟨5, ![1, N, H, C, W]⟩ e)) = G := by
  funext y
  have y0 : (y 0).val < 1 := (y 0).isLt
  have y1 : (y 1).val < N := (y 1).isLt
  have y2 : (y 2).val < H := (y 2).isLt
  have y3 : (y 3).val < C := (y 3).isLt
  have y4 : (y 4).val < W := (y 4).isLt
  have mem : ∀ (a : ℕ) (inb) (pos), (y 2).val % 2 = a →
      y ∈ (rows (N := N) (h := h) (H := H) (C := C) (W := W) a inb pos).set := fun a inb pos ha => by
    refine (LoadRect.mem_set _).mpr fun c => ?_
    match c with
    | ⟨0, _⟩ => exact ⟨(y 0).val, y0, (by show (y 0).val = 0 + 1 * _; omega)⟩
    | ⟨1, _⟩ => exact ⟨(y 1).val, y1, (by show (y 1).val = 0 + 1 * _; omega)⟩
    | ⟨2, _⟩ => exact ⟨(y 2).val / 2, (by show _ < h; omega), (by show (y 2).val = a + 2 * _; omega)⟩
    | ⟨3, _⟩ => exact ⟨(y 3).val, y3, (by show (y 3).val = 0 + 1 * _; omega)⟩
    | ⟨4, _⟩ => exact ⟨(y 4).val, y4, (by show (y 4).val = 0 + 1 * _; omega)⟩
  have piece : ∀ (a : ℕ) (inb) (pos) (P : (⟨5, ![1, N, h, C, W]⟩ : Shape).Idx → Val e) (ha : a < 2)
      (hP : ∀ n i k x, P (ix5 0 n i k x) = G (ix5 0 n ⟨2 * i.val + a, by omega⟩ k x)),
      ∀ x, P x = G ((rows (N := N) (h := h) (H := H) (C := C) (W := W) a inb pos).emb x) := fun a inb pos P ha hP x => by
    have x0 : x 0 = (0 : Fin 1) := Subsingleton.elim (α := Fin 1) _ _
    rw [eq_ix5 x, x0]
    refine (hP _ _ _ _).trans (congrArg G (funext fun c => Fin.ext ?_))
    match c with
    | ⟨0, _⟩ => rfl
    | ⟨1, _⟩ => show (x 1).val = 0 + 1 * (x 1).val; omega
    | ⟨2, _⟩ => show 2 * (x 2).val + a = a + 2 * (x 2).val; omega
    | ⟨3, _⟩ => show (x 3).val = 0 + 1 * (x 3).val; omega
    | ⟨4, _⟩ => show (x 4).val = 0 + 1 * (x 4).val; omega
  refine View.canon_apply_of_pieces G _ ?_ y ?_
  · intro p hp
    rcases List.mem_cons.mp hp with rfl | hp
    · exact piece 1 _ _ P1 (by omega) h1
    rcases List.mem_cons.mp hp with rfl | hp
    · exact piece 0 _ _ P0 (by omega) h0
    · cases hp
  · rcases Nat.mod_two_eq_zero_or_one (y 2).val with ha | ha
    · exact ⟨_, .tail _ (.head _), mem 0 _ _ ha⟩
    · exact ⟨_, .head _, mem 1 _ _ ha⟩

end Cert.Interleave
-- ==== Proof.KernelIdeal.DecodeValue.lean ====
/- The decoder's body at the extended reals: what each interleaved buffer holds when it is read, and what the body leaves
   in its output block. -/
module

public import proofs.«01_k».proof.Proof.KernelIdeal.Decode
public import proofs.«01_k».proof.Proof.Interleave
public import proofs.«01_k».proof.Proof.Spec

@[expose] public section

set_option maxRecDepth 16384

noncomputable section

namespace Cert.KernelIdeal.Stage

open Idealize.ShloMosaic Idealize.ShloMosaic.TcCoe Idealize.SL.Sem Cert.KernelIdeal.Gen Cert.Spec

/-- A box's latent vector: the row of the table that the box's index names, as the product with a one-hot matrix gives it. -/
def latent (x0 : Vec Ideal S1x1x32 .i32) (x1 : Vec Ideal S144x64 .f32) (n : Fin 32) (c : Fin 64) : EReal :=
  ∑ r : Fin 144, FloatOps.sitofp (F := Ideal) .f32 (BitVec.setWidth 32 (IntOp.cmpi .eq (BitVec.ofNat 32 r.val) (x0 (ix3 0 0 n)))) * x1 (ix2 r c)

/-- The one-hot interleaving matrix: its upper half sends a column to the even columns, its lower half to the odd ones. -/
theorem interleave_apply (r x : Fin 64) :
    k0_pay40 (F := Ideal) (ix2 r x) =
      if (if r.val < 32 then x.val = 2 * r.val else x.val = 2 * (r.val - 32) + 1) then 1 else 0 := by
  pointwise [k0_pay40]
  simp only [bit_value]
  by_cases h : r.val < 32
  · have e : BitVec.ofNat 32 x.val = IntOp.muli (2#32) (BitVec.ofNat 32 r.val) ↔ x.val = 2 * r.val := by
      rw [← BitVec.toNat_inj]
      simp only [IntOp.muli, BitVec.toNat_mul, BitVec.toNat_ofNat]
      omega
    rw [dif_pos h]
    simp only [e, if_pos h]
  · have e : BitVec.ofNat 32 x.val = IntOp.addi (IntOp.muli (2#32) (BitVec.ofNat 32 (r.val - 32))) 1#32 ↔
        x.val = 2 * (r.val - 32) + 1 := by
      rw [← BitVec.toNat_inj]
      simp only [IntOp.muli, IntOp.addi, BitVec.toNat_add, BitVec.toNat_mul, BitVec.toNat_ofNat]
      omega
    rw [dif_neg h]
    simp only [e, if_neg h]

/-- A column of the block is one of the two that a column of the half-width layer gives. -/
theorem half_cases (x : Fin 64) : ∃ m : Fin 32, x = ⟨2 * m.val, by omega⟩ ∨ x = ⟨2 * m.val + 1, by omega⟩ := by
  rcases Nat.mod_two_eq_zero_or_one x.val with h | h
  · exact ⟨⟨x.val / 2, by omega⟩, .inl (Fin.ext (by show _ = 2 * (x.val / 2); omega))⟩
  · exact ⟨⟨x.val / 2, by omega⟩, .inr (Fin.ext (by show _ = 2 * (x.val / 2) + 1; omega))⟩

/-- The interleaving product at an even column reads the first operand, -/
theorem interleave_even (f g : Fin 32 → EReal) (m : Fin 32) :
    (∑ r : Fin 32, f r * k0_pay40 (F := Ideal) (ix2 ⟨r.val, by omega⟩ ⟨2 * m.val, by omega⟩)) +
      ∑ r : Fin 32, g r * k0_pay40 (F := Ideal) (ix2 ⟨32 + r.val, by omega⟩ ⟨2 * m.val, by omega⟩) = f m := by
  simp only [interleave_apply]
  rw [sum_mul_one_hot f _ m (fun r => by rw [if_pos r.isLt, Fin.ext_iff]; omega),
    sum_mul_none g _ (fun r => by rw [if_neg (by omega)]; omega), add_zero]

/-- and at an odd column the second. -/
theorem interleave_odd (f g : Fin 32 → EReal) (m : Fin 32) :
    (∑ r : Fin 32, f r * k0_pay40 (F := Ideal) (ix2 ⟨r.val, by omega⟩ ⟨2 * m.val + 1, by omega⟩)) +
      ∑ r : Fin 32, g r * k0_pay40 (F := Ideal) (ix2 ⟨32 + r.val, by omega⟩ ⟨2 * m.val + 1, by omega⟩) = g m := by
  simp only [interleave_apply]
  rw [sum_mul_none f _ (fun r => by rw [if_pos r.isLt]; omega),
    sum_mul_one_hot g _ m (fun r => by rw [if_neg (by omega), Fin.ext_iff]; omega), zero_add]

section Layers
variable (c : Dev nD) (i : grid0.Coords) (arg1 : Memref sig .tc .vmem S1x1x32 .i32) (harg1 : arg1.IsWhole) (arg2 : Memref sig .tc .vmem S144x64 .f32) (harg2 : arg2.IsWhole) (arg3 : Memref sig .tc .vmem S64x512 .f32) (harg3 : arg3.IsWhole) (arg4 : Memref sig .tc .vmem S1x128 .f32) (harg4 : arg4.IsWhole) (arg5 : Memref sig .tc .vmem S128x512 .f32) (harg5 : arg5.IsWhole) (arg6 : Memref sig .tc .vmem S1x128 .f32) (harg6 : arg6.IsWhole) (arg7 : Memref sig .tc .vmem S4x128x64 .f32) (harg7 : arg7.IsWhole) (arg8 : Memref sig .tc .vmem S1x64 .f32) (harg8 : arg8.IsWhole) (arg9 : Memref sig .tc .vmem S4x64x64 .f32) (harg9 : arg9.IsWhole) (arg10 : Memref sig .tc .vmem S1x64 .f32) (harg10 : arg10.IsWhole) (arg11 : Memref sig .tc .vmem S4x64x32 .f32) (harg11 : arg11.IsWhole) (arg12 : Memref sig .tc .vmem S1x32 .f32) (harg12 : arg12.IsWhole) (arg13 : Memref sig .tc .vmem S4x32x3 .f32) (harg13 : arg13.IsWhole) (arg14 : Memref sig .tc .vmem S1x3 .f32) (harg14 : arg14.IsWhole) (arg15 : Memref sig .tc .vmem S1x32x64x3x64 .f32) (harg15 : arg15.IsWhole) (arg16 : Memref sig .tc .vmem S32x2x2x128 .f32) (harg16 : arg16.IsWhole) (arg17 : Memref sig .tc .vmem S32x4x4x128 .f32) (harg17 : arg17.IsWhole) (arg18 : Memref sig .tc .vmem S32x8x8x64 .f32) (harg18 : arg18.IsWhole) (arg19 : Memref sig .tc .vmem S32x16x16x64 .f32) (harg19 : arg19.IsWhole) (arg20 : Memref sig .tc .vmem S32x32x32x32 .f32) (harg20 : arg20.IsWhole) (x0 : Vec Ideal S1x1x32 .i32) (x1 : Vec Ideal S144x64 .f32) (x2 : Vec Ideal S64x512 .f32) (x3 : Vec Ideal S1x128 .f32) (x4 : Vec Ideal S128x512 .f32) (x5 : Vec Ideal S1x128 .f32) (x6 : Vec Ideal S4x128x64 .f32) (x7 : Vec Ideal S1x64 .f32) (x8 : Vec Ideal S4x64x64 .f32) (x9 : Vec Ideal S1x64 .f32) (x10 : Vec Ideal S4x64x32 .f32) (x11 : Vec Ideal S1x32 .f32) (x12 : Vec Ideal S4x32x3 .f32) (x13 : Vec Ideal S1x3 .f32)

/-- What the buffer of layer 1 holds when it is read: the layer's output for each of the 32 boxes, given the layer before. -/
theorem v51_eq : kernelRun0_A.sl.v51 (F := Ideal) c arg1 harg1 arg2 harg2 arg3 harg3 arg4 harg4 arg16 x0 x1 x2 x3 =
    fun y => (layer (packed x2) (row x3) fun _ _ => latent x0 x1 (y 0)) (y 1).val (y 2).val (y 3) := by
  unfold kernelRun0_A.sl.v51 kernelRun0_A.sl.HS0_4 kernelRun0_A.sl.r kernelRun0_A.sl.r_1 kernelRun0_A.sl.r_2
  simp only [View.readAt_eq_ld, Memref.IsWhole.read_unread]
  refine Interleave.read_quarters (h := 1) rfl _ _ _ _ _ _ _ _ _ _ _ _ _ _ _ ?_ ?_ ?_ ?_
  · intro n i j o
    refine Eq.trans ?_ (layer_11 _ _ _ i.val j.val o).symm
    pointwise [k0_pay2, k0_pay3, k0_pay4, k0_pay5, k0_pay6, k0_pay7, k0_pay8]
    rfl
  · intro n i j o
    refine Eq.trans ?_ (layer_10 _ _ _ i.val j.val o).symm
    pointwise [k0_pay2, k0_pay3, k0_pay4, k0_pay5, k0_pay6, k0_pay7, k0_pay8]
    rfl
  · intro n i j o
    refine Eq.trans ?_ (layer_01 _ _ _ i.val j.val o).symm
    pointwise [k0_pay2, k0_pay3, k0_pay4, k0_pay5, k0_pay6, k0_pay7, k0_pay8]
    rfl
  · intro n i j o
    refine Eq.trans ?_ (layer_00 _ _ _ i.val j.val o).symm
    pointwise [k0_pay2, k0_pay3, k0_pay4, k0_pay5, k0_pay6, k0_pay7, k0_pay8]
    simp only [packed_00]
    rfl

/-- What the buffer of layer 2 holds when it is read: the layer's output for each of the 32 boxes, given the layer before. -/
theorem v94_of (X : Fin 32 → ℕ → ℕ → Fin 128 → EReal)
    (hX : kernelRun0_A.sl.v51 (F := Ideal) c arg1 harg1 arg2 harg2 arg3 harg3 arg4 harg4 arg16 x0 x1 x2 x3 = fun y => X (y 0) (y 1).val (y 2).val (y 3)) :
    kernelRun0_A.sl.v94 (F := Ideal) c arg1 harg1 arg2 harg2 arg3 harg3 arg4 harg4 arg5 harg5 arg6 harg6 arg16 arg17 x0 x1 x2 x3 x4 x5 =
      fun y => layer (packed x4) (row x5) (X (y 0)) (y 1).val (y 2).val (y 3) := by
  unfold kernelRun0_A.sl.v94 kernelRun0_A.sl.HS1_4 kernelRun0_A.sl.r_3 kernelRun0_A.sl.r_4 kernelRun0_A.sl.r_5 kernelRun0_A.sl.r_6
  rw [hX]
  simp only [View.readAt_eq_ld, Memref.IsWhole.read_unread]
  refine Interleave.read_quarters (h := 2) rfl _ _ _ _ _ _ _ _ _ _ _ _ _ _ _ ?_ ?_ ?_ ?_
  · intro n i j o
    refine Eq.trans ?_ (layer_11 _ _ _ i.val j.val o).symm
    pointwise [k0_pay9, k0_pay10, k0_pay11, k0_pay12, k0_pay13, k0_pay14, k0_pay15, k0_pay16]
    rfl
  · intro n i j o
    refine Eq.trans ?_ (layer_10 _ _ _ i.val j.val o).symm
    pointwise [k0_pay9, k0_pay10, k0_pay11, k0_pay12, k0_pay13, k0_pay14, k0_pay15, k0_pay16]
    rfl
  · intro n i j o
    refine Eq.trans ?_ (layer_01 _ _ _ i.val j.val o).symm
    pointwise [k0_pay9, k0_pay10, k0_pay11, k0_pay12, k0_pay13, k0_pay14, k0_pay15, k0_pay16]
    rfl
  · intro n i j o
    refine Eq.trans ?_ (layer_00 _ _ _ i.val j.val o).symm
    pointwise [k0_pay9, k0_pay10, k0_pay11, k0_pay12, k0_pay13, k0_pay14, k0_pay15, k0_pay16]
    simp only [packed_00]
    rfl

/-- What the buffer of layer 3 holds when it is read: the layer's output for each of the 32 boxes, given the layer before. -/
theorem v142_of (X : Fin 32 → ℕ → ℕ → Fin 128 → EReal)
    (hX : kernelRun0_A.sl.v94 (F := Ideal) c arg1 harg1 arg2 harg2 arg3 harg3 arg4 harg4 arg5 harg5 arg6 harg6 arg16 arg17 x0 x1 x2 x3 x4 x5 = fun y => X (y 0) (y 1).val (y 2).val (y 3)) :
    kernelRun0_A.sl.v142 (F := Ideal) c arg1 harg1 arg2 harg2 arg3 harg3 arg4 harg4 arg5 harg5 arg6 harg6 arg7 harg7 arg8 harg8 arg16 arg17 arg18 x0 x1 x2 x3 x4 x5 x6 x7 =
      fun y => layer (stacked x6) (row x7) (X (y 0)) (y 1).val (y 2).val (y 3) := by
  unfold kernelRun0_A.sl.v142 kernelRun0_A.sl.HS2_4 kernelRun0_A.sl.r_7 kernelRun0_A.sl.r_8 kernelRun0_A.sl.r_9 kernelRun0_A.sl.r_10
  rw [hX]
  simp only [View.readAt_eq_ld, Memref.IsWhole.read_unread]
  refine Interleave.read_quarters (h := 4) rfl _ _ _ _ _ _ _ _ _ _ _ _ _ _ _ ?_ ?_ ?_ ?_
  · intro n i j o
    refine Eq.trans ?_ (layer_11 _ _ _ i.val j.val o).symm
    pointwise [k0_pay17, k0_pay18, k0_pay19, k0_pay20, k0_pay21, k0_pay22, k0_pay23]
    rfl
  · intro n i j o
    refine Eq.trans ?_ (layer_10 _ _ _ i.val j.val o).symm
    pointwise [k0_pay17, k0_pay18, k0_pay19, k0_pay20, k0_pay21, k0_pay22, k0_pay23]
    rfl
  · intro n i j o
    refine Eq.trans ?_ (layer_01 _ _ _ i.val j.val o).symm
    pointwise [k0_pay17, k0_pay18, k0_pay19, k0_pay20, k0_pay21, k0_pay22, k0_pay23]
    rfl
  · intro n i j o
    refine Eq.trans ?_ (layer_00 _ _ _ i.val j.val o).symm
    pointwise [k0_pay17, k0_pay18, k0_pay19, k0_pay20, k0_pay21, k0_pay22, k0_pay23]
    rfl

/-- What the buffer of layer 4 holds when it is read: the layer's output for each of the 32 boxes, given the layer before. -/
theorem v190_of (X : Fin 32 → ℕ → ℕ → Fin 64 → EReal)
    (hX : kernelRun0_A.sl.v142 (F := Ideal) c arg1 harg1 arg2 harg2 arg3 harg3 arg4 harg4 arg5 harg5 arg6 harg6 arg7 harg7 arg8 harg8 arg16 arg17 arg18 x0 x1 x2 x3 x4 x5 x6 x7 = fun y => X (y 0) (y 1).val (y 2).val (y 3)) :
    kernelRun0_A.sl.v190 (F := Ideal) c arg1 harg1 arg2 harg2 arg3 harg3 arg4 harg4 arg5 harg5 arg6 harg6 arg7 harg7 arg8 harg8 arg9 harg9 arg10 harg10 arg16 arg17 arg18 arg19 x0 x1 x2 x3 x4 x5 x6 x7 x8 x9 =
      fun y => layer (stacked x8) (row x9) (X (y 0)) (y 1).val (y 2).val (y 3) := by
  unfold kernelRun0_A.sl.v190 kernelRun0_A.sl.HS3_4 kernelRun0_A.sl.r_11 kernelRun0_A.sl.r_12 kernelRun0_A.sl.r_13
  rw [hX]
  simp only [View.readAt_eq_ld, Memref.IsWhole.read_unread]
  refine Interleave.read_quarters (h := 8) rfl _ _ _ _ _ _ _ _ _ _ _ _ _ _ _ ?_ ?_ ?_ ?_
  · intro n i j o
    refine Eq.trans ?_ (layer_11 _ _ _ i.val j.val o).symm
    pointwise [k0_pay24, k0_pay25, k0_pay26, k0_pay27, k0_pay28, k0_pay29, k0_pay30]
    rfl
  · intro n i j o
    refine Eq.trans ?_ (layer_10 _ _ _ i.val j.val o).symm
    pointwise [k0_pay24, k0_pay25, k0_pay26, k0_pay27, k0_pay28, k0_pay29, k0_pay30]
    rfl
  · intro n i j o
    refine Eq.trans ?_ (layer_01 _ _ _ i.val j.val o).symm
    pointwise [k0_pay24, k0_pay25, k0_pay26, k0_pay27, k0_pay28, k0_pay29, k0_pay30]
    rfl
  · intro n i j o
    refine Eq.trans ?_ (layer_00 _ _ _ i.val j.val o).symm
    pointwise [k0_pay24, k0_pay25, k0_pay26, k0_pay27, k0_pay28, k0_pay29, k0_pay30]
    rfl

/-- What the buffer of layer 5 holds when it is read: the layer's output for each of the 32 boxes, given the layer before. -/
theorem v238_of (X : Fin 32 → ℕ → ℕ → Fin 64 → EReal)
    (hX : kernelRun0_A.sl.v190 (F := Ideal) c arg1 harg1 arg2 harg2 arg3 harg3 arg4 harg4 arg5 harg5 arg6 harg6 arg7 harg7 arg8 harg8 arg9 harg9 arg10 harg10 arg16 arg17 arg18 arg19 x0 x1 x2 x3 x4 x5 x6 x7 x8 x9 = fun y => X (y 0) (y 1).val (y 2).val (y 3)) :
    kernelRun0_A.sl.v238 (F := Ideal) c arg1 harg1 arg2 harg2 arg3 harg3 arg4 harg4 arg5 harg5 arg6 harg6 arg7 harg7 arg8 harg8 arg9 harg9 arg10 harg10 arg11 harg11 arg12 harg12 arg16 arg17 arg18 arg19 arg20 x0 x1 x2 x3 x4 x5 x6 x7 x8 x9 x10 x11 =
      fun y => layer (stacked x10) (row x11) (X (y 0)) (y 1).val (y 2).val (y 3) := by
  unfold kernelRun0_A.sl.v238 kernelRun0_A.sl.HS4_4 kernelRun0_A.sl.r_16 kernelRun0_A.sl.r_17 kernelRun0_A.sl.r_14 kernelRun0_A.sl.r_15
  rw [hX]
  simp only [View.readAt_eq_ld, Memref.IsWhole.read_unread]
  refine Interleave.read_quarters (h := 16) rfl _ _ _ _ _ _ _ _ _ _ _ _ _ _ _ ?_ ?_ ?_ ?_
  · intro n i j o
    refine Eq.trans ?_ (layer_11 _ _ _ i.val j.val o).symm
    pointwise [k0_pay31, k0_pay32, k0_pay33, k0_pay34, k0_pay35, k0_pay36, k0_pay37]
    rfl
  · intro n i j o
    refine Eq.trans ?_ (layer_10 _ _ _ i.val j.val o).symm
    pointwise [k0_pay31, k0_pay32, k0_pay33, k0_pay34, k0_pay35, k0_pay36, k0_pay37]
    rfl
  · intro n i j o
    refine Eq.trans ?_ (layer_01 _ _ _ i.val j.val o).symm
    pointwise [k0_pay31, k0_pay32, k0_pay33, k0_pay34, k0_pay35, k0_pay36, k0_pay37]
    rfl
  · intro n i j o
    refine Eq.trans ?_ (layer_00 _ _ _ i.val j.val o).symm
    pointwise [k0_pay31, k0_pay32, k0_pay33, k0_pay34, k0_pay35, k0_pay36, k0_pay37]
    rfl

variable (X : Fin 32 → ℕ → ℕ → Fin 32 → EReal)
    (hX : kernelRun0_A.sl.v238 (F := Ideal) c arg1 harg1 arg2 harg2 arg3 harg3 arg4 harg4 arg5 harg5 arg6 harg6 arg7 harg7 arg8 harg8 arg9 harg9 arg10 harg10 arg11 harg11 arg12 harg12 arg16 arg17 arg18 arg19 arg20 x0 x1 x2 x3 x4 x5 x6 x7 x8 x9 x10 x11 = fun y => X (y 0) (y 1).val (y 2).val (y 3))
include hX

/-- What the body leaves in its output block, given the last hidden layer: the last layer, columns interleaved. -/
theorem out0_A_14_of :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 =
      fun y => deconv (X (y 1)) (stacked x12) (row x13) (y 2).val (y 4).val (y 3) := by
  unfold out0_A_14
  rw [View.read_writes_junk_eq_canon]
  unfold kernelRun0_A
  dsimp only
  unfold kernelRun0_A.sl.r_21 kernelRun0_A.sl.r_18 kernelRun0_A.sl.r_19 kernelRun0_A.sl.r_20
  rw [hX]
  simp only [View.readAt_eq_ld, Memref.IsWhole.read_unread]
  refine Interleave.canon_rows (h := 32) rfl _ _ _ _ _ _ _ ?_ ?_
  · intro n i k x
    obtain ⟨m, rfl | rfl⟩ := half_cases x
    · refine Eq.trans ?_ (deconv_10 _ _ _ i.val m.val k).symm
      pointwise [k0_pay1, k0_pay38, k0_pay39, k0_pay43]
      refine (interleave_even _ _ m).trans ?_
      have e1 : (⟨((n.val * 32 + i.val) * 32 + m.val) / 1024, by omega⟩ : Fin 32) = n := Fin.ext (by show _ / 1024 = _; omega)
      have e2 : ((n.val * 32 + i.val) * 32 + m.val) / 32 % 32 = i.val := by omega
      have e3 : ((n.val * 32 + i.val) * 32 + m.val) % 32 = m.val := by omega
      simp only [e1, e2, e3]
      rfl
    · refine Eq.trans ?_ (deconv_11 _ _ _ i.val m.val k).symm
      pointwise [k0_pay1, k0_pay38, k0_pay39, k0_pay43]
      refine (interleave_odd _ _ m).trans ?_
      have e1 : (⟨((n.val * 32 + i.val) * 32 + m.val) / 1024, by omega⟩ : Fin 32) = n := Fin.ext (by show _ / 1024 = _; omega)
      have e2 : ((n.val * 32 + i.val) * 32 + m.val) / 32 % 32 = i.val := by omega
      have e3 : ((n.val * 32 + i.val) * 32 + m.val) % 32 = m.val := by omega
      simp only [e1, e2, e3]
      rfl
  · intro n i k x
    obtain ⟨m, rfl | rfl⟩ := half_cases x
    · refine Eq.trans ?_ (deconv_00 _ _ _ i.val m.val k).symm
      pointwise [k0_pay42, k0_pay41, k0_pay38, k0_pay39]
      refine (interleave_even _ _ m).trans ?_
      have e1 : (⟨((n.val * 32 + i.val) * 32 + m.val) / 1024, by omega⟩ : Fin 32) = n := Fin.ext (by show _ / 1024 = _; omega)
      have e2 : ((n.val * 32 + i.val) * 32 + m.val) / 32 % 32 = i.val := by omega
      have e3 : ((n.val * 32 + i.val) * 32 + m.val) % 32 = m.val := by omega
      simp only [e1, e2, e3]
      rfl
    · refine Eq.trans ?_ (deconv_01 _ _ _ i.val m.val k).symm
      pointwise [k0_pay42, k0_pay41, k0_pay38, k0_pay39]
      refine (interleave_odd _ _ m).trans ?_
      have e1 : (⟨((n.val * 32 + i.val) * 32 + m.val) / 1024, by omega⟩ : Fin 32) = n := Fin.ext (by show _ / 1024 = _; omega)
      have e2 : ((n.val * 32 + i.val) * 32 + m.val) / 32 % 32 = i.val := by omega
      have e3 : ((n.val * 32 + i.val) * 32 + m.val) % 32 = m.val := by omega
      simp only [e1, e2, e3]
      rfl

omit X hX in
/-- What the body leaves in its output block: for box `y 1`, row `y 2`, channel `y 3` and column `y 4` the decoder's
    output before the logistic function. -/
theorem out0_A_14_eq :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 =
      fun y => Net.logit ⟨packed x2, row x3, packed x4, row x5, stacked x6, row x7, stacked x8, row x9, stacked x10, row x11,
        stacked x12, row x13⟩ (latent x0 x1 (y 1)) (y 2).val (y 4).val (y 3) := by
  have h1 := v51_eq c arg1 harg1 arg2 harg2 arg3 harg3 arg4 harg4 arg16 x0 x1 x2 x3
  have h2 := v94_of c arg1 harg1 arg2 harg2 arg3 harg3 arg4 harg4 arg5 harg5 arg6 harg6 arg16 arg17 x0 x1 x2 x3 x4 x5
    (fun n => layer (packed x2) (row x3) fun _ _ => latent x0 x1 n) h1
  have h3 := v142_of c arg1 harg1 arg2 harg2 arg3 harg3 arg4 harg4 arg5 harg5 arg6 harg6 arg7 harg7 arg8 harg8 arg16 arg17 arg18 x0 x1 x2 x3 x4 x5 x6 x7
    (fun n => layer (packed x4) (row x5) (layer (packed x2) (row x3) fun _ _ => latent x0 x1 n)) h2
  have h4 := v190_of c arg1 harg1 arg2 harg2 arg3 harg3 arg4 harg4 arg5 harg5 arg6 harg6 arg7 harg7 arg8 harg8 arg9 harg9 arg10 harg10 arg16 arg17 arg18 arg19 x0 x1 x2 x3 x4 x5 x6 x7 x8 x9
    (fun n => layer (stacked x6) (row x7) (layer (packed x4) (row x5) (layer (packed x2) (row x3) fun _ _ => latent x0 x1 n))) h3
  have h5 := v238_of c arg1 harg1 arg2 harg2 arg3 harg3 arg4 harg4 arg5 harg5 arg6 harg6 arg7 harg7 arg8 harg8 arg9 harg9 arg10 harg10 arg11 harg11 arg12 harg12 arg16 arg17 arg18 arg19 arg20 x0 x1 x2 x3 x4 x5 x6 x7 x8 x9 x10 x11
    (fun n => layer (stacked x8) (row x9) (layer (stacked x6) (row x7) (layer (packed x4) (row x5) (layer (packed x2) (row x3) fun _ _ => latent x0 x1 n)))) h4
  exact out0_A_14_of c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13
    (fun n => layer (stacked x10) (row x11) (layer (stacked x8) (row x9) (layer (stacked x6) (row x7) (layer (packed x4) (row x5) (layer (packed x2) (row x3) fun _ _ => latent x0 x1 n))))) h5

end Layers

end Cert.KernelIdeal.Stage
-- ==== Proof.KernelIdeal.Arrays.lean ====
/- The arrays that the two calls leave, each as one function of the arrays that the call found. -/
module

public import proofs.«01_k».proof.Proof.KernelIdeal.DecodeValue
public import Idealize.ShloMosaic.Lib.Pipeline.ValueKit

@[expose] public section

set_option maxRecDepth 16384

noncomputable section

namespace Cert.KernelIdeal.Stage

open Idealize.ShloMosaic Idealize.ShloMosaic.TcCoe Idealize.SL.Sem Cert.KernelIdeal.Gen Cert.Spec

variable (V : (c : Dev nD) → (b : Ref sig .tc) → Buf (Elt Ideal) ((c : Thread nD τ).loc b))

/-- The decoder's weights as the first call finds them. -/
def foundNet (c : Dev nD) : Net :=
  ⟨packed (V c main_v38), row (V c main_v21), packed (V c main_v40), row (V c main_v24), stacked (V c main_v26), row (V c main_v27), stacked (V c main_v29), row (V c main_v30), stacked (V c main_v32), row (V c main_v33), stacked (V c main_v35), row (V c main_v36)⟩

/-- The window maps of the first call over its nine points: the indices and the result go by the point, -/
theorem index0 : ∀ t : Fin cfg0.N, win0_0.index t = ![t.val, 0, 0] ∧ win0_14.index t = ![t.val, 0, 0, 0, 0] := by
  decide +kernel

/-- and every other operand is one block. -/
theorem index0_whole : ∀ (w : Fin cfg0.W), 1 ≤ w.val → w.val ≤ 13 → ∀ (t : Fin cfg0.N) a, (cfg0.win w).index t a = 0 := by
  decide +kernel

/-- A coordinate of the block with number zero is the array's coordinate. -/
theorem at_zero {i s y : ℕ} (h : i = 0) : i * s + y = y := by rw [h, Nat.zero_mul, Nat.zero_add]

/-! So the block of an operand that is one block is the operand. -/
theorem block0_1 (c : Dev nD) (t : Fin cfg0.N) : (iblk0 V c 1 t : Vec Ideal S144x64 .f32) = V c main_v16 :=
  funext fun z => congrArg (V c main_v16) (funext fun a => Fin.ext ((Pipeline.Window.rect_emb_val _ _ _ _ rfl).trans (at_zero (index0_whole 1 (by decide) (by decide) t a))))
theorem block0_2 (c : Dev nD) (t : Fin cfg0.N) : (iblk0 V c 2 t : Vec Ideal S64x512 .f32) = V c main_v38 :=
  funext fun z => congrArg (V c main_v38) (funext fun a => Fin.ext ((Pipeline.Window.rect_emb_val _ _ _ _ rfl).trans (at_zero (index0_whole 2 (by decide) (by decide) t a))))
theorem block0_3 (c : Dev nD) (t : Fin cfg0.N) : (iblk0 V c 3 t : Vec Ideal S1x128 .f32) = V c main_v21 :=
  funext fun z => congrArg (V c main_v21) (funext fun a => Fin.ext ((Pipeline.Window.rect_emb_val _ _ _ _ rfl).trans (at_zero (index0_whole 3 (by decide) (by decide) t a))))
theorem block0_4 (c : Dev nD) (t : Fin cfg0.N) : (iblk0 V c 4 t : Vec Ideal S128x512 .f32) = V c main_v40 :=
  funext fun z => congrArg (V c main_v40) (funext fun a => Fin.ext ((Pipeline.Window.rect_emb_val _ _ _ _ rfl).trans (at_zero (index0_whole 4 (by decide) (by decide) t a))))
theorem block0_5 (c : Dev nD) (t : Fin cfg0.N) : (iblk0 V c 5 t : Vec Ideal S1x128 .f32) = V c main_v24 :=
  funext fun z => congrArg (V c main_v24) (funext fun a => Fin.ext ((Pipeline.Window.rect_emb_val _ _ _ _ rfl).trans (at_zero (index0_whole 5 (by decide) (by decide) t a))))
theorem block0_6 (c : Dev nD) (t : Fin cfg0.N) : (iblk0 V c 6 t : Vec Ideal S4x128x64 .f32) = V c main_v26 :=
  funext fun z => congrArg (V c main_v26) (funext fun a => Fin.ext ((Pipeline.Window.rect_emb_val _ _ _ _ rfl).trans (at_zero (index0_whole 6 (by decide) (by decide) t a))))
theorem block0_7 (c : Dev nD) (t : Fin cfg0.N) : (iblk0 V c 7 t : Vec Ideal S1x64 .f32) = V c main_v27 :=
  funext fun z => congrArg (V c main_v27) (funext fun a => Fin.ext ((Pipeline.Window.rect_emb_val _ _ _ _ rfl).trans (at_zero (index0_whole 7 (by decide) (by decide) t a))))
theorem block0_8 (c : Dev nD) (t : Fin cfg0.N) : (iblk0 V c 8 t : Vec Ideal S4x64x64 .f32) = V c main_v29 :=
  funext fun z => congrArg (V c main_v29) (funext fun a => Fin.ext ((Pipeline.Window.rect_emb_val _ _ _ _ rfl).trans (at_zero (index0_whole 8 (by decide) (by decide) t a))))
theorem block0_9 (c : Dev nD) (t : Fin cfg0.N) : (iblk0 V c 9 t : Vec Ideal S1x64 .f32) = V c main_v30 :=
  funext fun z => congrArg (V c main_v30) (funext fun a => Fin.ext ((Pipeline.Window.rect_emb_val _ _ _ _ rfl).trans (at_zero (index0_whole 9 (by decide) (by decide) t a))))
theorem block0_10 (c : Dev nD) (t : Fin cfg0.N) : (iblk0 V c 10 t : Vec Ideal S4x64x32 .f32) = V c main_v32 :=
  funext fun z => congrArg (V c main_v32) (funext fun a => Fin.ext ((Pipeline.Window.rect_emb_val _ _ _ _ rfl).trans (at_zero (index0_whole 10 (by decide) (by decide) t a))))
theorem block0_11 (c : Dev nD) (t : Fin cfg0.N) : (iblk0 V c 11 t : Vec Ideal S1x32 .f32) = V c main_v33 :=
  funext fun z => congrArg (V c main_v33) (funext fun a => Fin.ext ((Pipeline.Window.rect_emb_val _ _ _ _ rfl).trans (at_zero (index0_whole 11 (by decide) (by decide) t a))))
theorem block0_12 (c : Dev nD) (t : Fin cfg0.N) : (iblk0 V c 12 t : Vec Ideal S4x32x3 .f32) = V c main_v35 :=
  funext fun z => congrArg (V c main_v35) (funext fun a => Fin.ext ((Pipeline.Window.rect_emb_val _ _ _ _ rfl).trans (at_zero (index0_whole 12 (by decide) (by decide) t a))))
theorem block0_13 (c : Dev nD) (t : Fin cfg0.N) : (iblk0 V c 13 t : Vec Ideal S1x3 .f32) = V c main_v36 :=
  funext fun z => congrArg (V c main_v36) (funext fun a => Fin.ext ((Pipeline.Window.rect_emb_val _ _ _ _ rfl).trans (at_zero (index0_whole 13 (by decide) (by decide) t a))))

/-- What the body leaves at a point, from the arrays that the call found. -/
theorem outsAt0_eq (c : Dev nD) (t : Fin cfg0.N) : outsAt0 V c t = fun y =>
    (foundNet V c).logit (latent (iblk0 V c 0 t) (V c main_v16) (y 1)) (y 2).val (y 4).val (y 3) := by
  unfold outsAt0
  rw [out0_A_14_eq]
  rw [block0_1 V c t, block0_2 V c t, block0_3 V c t, block0_4 V c t, block0_5 V c t, block0_6 V c t, block0_7 V c t, block0_8 V c t, block0_9 V c t, block0_10 V c t, block0_11 V c t, block0_12 V c t, block0_13 V c t]
  rfl

/-- The block of indices at a point. -/
theorem block0_0 (c : Dev nD) (t : Fin cfg0.N) (k : Fin 9) (hk : k.val = t.val) (n : Fin 32) :
    (iblk0 V c 0 t : Vec Ideal S1x1x32 .i32) (ix3 0 0 n) = V c main_v15 (ix3 k 0 n) := by
  obtain ⟨i0, -⟩ := index0 t
  blk_ext [iblk0, i0]

/-- A box's latent vector depends on its own index alone. -/
theorem latent_congr (x x' : Vec Ideal S1x1x32 .i32) (z : Vec Ideal S144x64 .f32) (n n' : Fin 32)
    (h : x (ix3 0 0 n) = x' (ix3 0 0 n')) : latent x z n = latent x' z n' := by
  funext k
  unfold latent
  rw [h]

/-- What the first call leaves: in block `y 0`, for the box that the block's index number `y 1` names, row `y 2`, channel
    `y 3` and column `y 4` of the decoder's output before the logistic function. -/
theorem decoded (c : Dev nD) : (dat0 V c).arrAt 14 cfg0.N = fun y : S9x32x64x3x64.Idx =>
    (foundNet V c).logit (latent (fun z => V c main_v15 (ix3 (y 0) 0 (z 2))) (V c main_v16) (y 1)) (y 2).val (y 4).val (y 3) := by
  refine (dat0 V c).arrAt_eq_of_covers 14 _ (by decide +kernel) fun t hf y => ?_
  obtain ⟨-, i14⟩ := index0 t
  have hv : ∀ a, ((win0_14.blk t).view.emb y a).val = win0_14.index t a * win0_14.size a + (y a).val :=
    fun a => Pipeline.Window.rect_emb_val _ _ _ _ rfl
  have y0 : (y 0).val < 1 := (y 0).isLt
  have e0 : ((win0_14.blk t).view.emb y 0).val = t.val := (hv 0).trans (by rw [i14]; show t.val * 1 + (y 0).val = t.val; omega)
  have e1 : (win0_14.blk t).view.emb y 1 = y 1 := Fin.ext ((hv 1).trans (at_zero (by rw [i14]; rfl)))
  have e2 : ((win0_14.blk t).view.emb y 2).val = (y 2).val := (hv 2).trans (at_zero (by rw [i14]; rfl))
  have e3 : (win0_14.blk t).view.emb y 3 = y 3 := Fin.ext ((hv 3).trans (at_zero (by rw [i14]; rfl)))
  have e4 : ((win0_14.blk t).view.emb y 4).val = (y 4).val := (hv 4).trans (at_zero (by rw [i14]; rfl))
  have key : outsAt0 V c t y = (foundNet V c).logit
      (latent (fun z => V c main_v15 (ix3 ((win0_14.blk t).view.emb y 0) 0 (z 2))) (V c main_v16) ((win0_14.blk t).view.emb y 1))
      ((win0_14.blk t).view.emb y 2).val ((win0_14.blk t).view.emb y 4).val ((win0_14.blk t).view.emb y 3) := by
    rw [outsAt0_eq, e1, e2, e3, e4]
    refine congrArg (fun z => (foundNet V c).logit z (y 2).val (y 4).val (y 3)) ?_
    exact latent_congr (iblk0 V c 0 t) _ _ (y 1) (y 1) (block0_0 V c t _ e0 (y 1))
  blk_simp
  rw [after0_14]
  refine key.trans ?_
  rw [← show _ = win0_14.index t 2 * 64 + (y 2).val from hv 2, ← show _ = win0_14.index t 4 * 64 + (y 4).val from hv 4]

end Cert.KernelIdeal.Stage
-- ==== Proof.KernelIdeal.Painted.lean ====
/- The array that the second call leaves, as one function of the arrays that the call found. -/
module

public import proofs.«01_k».proof.Proof.KernelIdeal.SampleValue
public import proofs.«01_k».proof.Proof.KernelIdeal.Arrays

@[expose] public section

set_option maxRecDepth 16384

noncomputable section

namespace Cert.KernelIdeal.Stage

open Idealize.ShloMosaic Idealize.ShloMosaic.TcCoe Idealize.SL.Sem Cert.KernelIdeal.Gen Cert.Spec

variable (V : (c : Dev nD) → (b : Ref sig .tc) → Buf (Elt Ideal) ((c : Thread nD τ).loc b))

/-- The window maps of the second call over its four points: the indices are one block, and every other operand and the
    result go by the image. -/
theorem index1 : ∀ t : Fin cfg1.N, win1_0.index t = ![0, 0, 0] ∧ win1_1.index t = ![t.val, 0, 0, 0] ∧ win1_2.index t = ![t.val, 0, 0]
    ∧ win1_3.index t = ![t.val, 0, 0] ∧ win1_4.index t = ![t.val, 0, 0] ∧ win1_5.index t = ![t.val, 0, 0, 0] := by
  decide +kernel

/-- The block of indices is the array of indices. -/
theorem block1_0 (c : Dev nD) (t : Fin cfg1.N) : (iblk1 V c 0 t : Vec Ideal S1x1x72 .i32) = V c main_v1 := by
  obtain ⟨i0, -⟩ := index1 t
  refine funext fun z => congrArg (V c main_v1) (funext fun a => Fin.ext ((Pipeline.Window.rect_emb_val _ _ _ _ rfl).trans (at_zero ?_)))
  refine (congrFun i0 a).trans ?_
  fin_cases a <;> rfl

/-- The block of decoded boxes at a point is the point's image. -/
theorem block1_1 (c : Dev nD) (t : Fin cfg1.N) (b : Fin 4) (hb : b.val = t.val) : (iblk1 V c 1 t : Vec Ideal S1x72x64x192 .f32) =
    fun z => V c main_v42 (ix4 b (z 1) (z 2) (z 3)) := by
  obtain ⟨-, i1, -⟩ := index1 t
  refine funext fun z => congrArg (V c main_v42) (funext fun a => Fin.ext ((Pipeline.Window.rect_emb_val _ _ _ _ rfl).trans ?_))
  have z0 : (z 0).val < 1 := (z 0).isLt
  fin_cases a
  · refine (congrArg (· * 1 + (z 0).val) (congrFun i1 0)).trans ?_
    show t.val * 1 + (z 0).val = b.val
    omega
  all_goals exact at_zero (congrFun i1 _)

/-- The block of boxes at a point is the point's image. -/
theorem block1_2 (c : Dev nD) (t : Fin cfg1.N) (b : Fin 4) (hb : b.val = t.val) : (iblk1 V c 2 t : Vec Ideal S1x72x4 .f32) =
    fun z => V c main_v17 (ix3 b (z 1) (z 2)) := by
  obtain ⟨-, -, i1, -⟩ := index1 t
  refine funext fun z => congrArg (V c main_v17) (funext fun a => Fin.ext ((Pipeline.Window.rect_emb_val _ _ _ _ rfl).trans ?_))
  have z0 : (z 0).val < 1 := (z 0).isLt
  fin_cases a
  · refine (congrArg (· * 1 + (z 0).val) (congrFun i1 0)).trans ?_
    show t.val * 1 + (z 0).val = b.val
    omega
  all_goals exact at_zero (congrFun i1 _)

/-- The block of depths at a point is the point's image. -/
theorem block1_3 (c : Dev nD) (t : Fin cfg1.N) (b : Fin 4) (hb : b.val = t.val) : (iblk1 V c 3 t : Vec Ideal S1x36x1 .f32) =
    fun z => V c main_arg3 (ix3 b (z 1) (z 2)) := by
  obtain ⟨-, -, -, i1, -⟩ := index1 t
  refine funext fun z => congrArg (V c main_arg3) (funext fun a => Fin.ext ((Pipeline.Window.rect_emb_val _ _ _ _ rfl).trans ?_))
  have z0 : (z 0).val < 1 := (z 0).isLt
  fin_cases a
  · refine (congrArg (· * 1 + (z 0).val) (congrFun i1 0)).trans ?_
    show t.val * 1 + (z 0).val = b.val
    omega
  all_goals exact at_zero (congrFun i1 _)

/-- The block of presences at a point is the point's image. -/
theorem block1_4 (c : Dev nD) (t : Fin cfg1.N) (b : Fin 4) (hb : b.val = t.val) : (iblk1 V c 4 t : Vec Ideal S1x72x1 .f32) =
    fun z => V c main_v18 (ix3 b (z 1) (z 2)) := by
  obtain ⟨-, -, -, -, i1, -⟩ := index1 t
  refine funext fun z => congrArg (V c main_v18) (funext fun a => Fin.ext ((Pipeline.Window.rect_emb_val _ _ _ _ rfl).trans ?_))
  have z0 : (z 0).val < 1 := (z 0).isLt
  fin_cases a
  · refine (congrArg (· * 1 + (z 0).val) (congrFun i1 0)).trans ?_
    show t.val * 1 + (z 0).val = b.val
    omega
  all_goals exact at_zero (congrFun i1 _)

/-- The value of one pixel of image `b`, from the arrays that the second call finds. -/
def paintedAt (c : Dev nD) (b : Fin 4) (ch : Fin 3) (p q : Fin 96) : EReal :=
  bodyValue (V c main_v1) (fun z => V c main_v42 (ix4 b (z 1) (z 2) (z 3))) (fun z => V c main_v17 (ix3 b (z 1) (z 2)))
    (fun z => V c main_arg3 (ix3 b (z 1) (z 2))) (fun z => V c main_v18 (ix3 b (z 1) (z 2))) ch p q

/-- What the body leaves at a point. -/
theorem outsAt1_eq (c : Dev nD) (t : Fin cfg1.N) (b : Fin 4) (hb : b.val = t.val) :
    outsAt1 V c t = fun y => paintedAt V c b (y 1) (y 2) (y 3) := by
  unfold outsAt1
  rw [out1_A_5_eq]
  rw [block1_0 V c t, block1_1 V c t b hb, block1_2 V c t b hb, block1_3 V c t b hb, block1_4 V c t b hb]
  rfl

/-- What the second call leaves: at image `y 0`, channel `y 1`, row `y 2` and column `y 3`, that pixel. -/
theorem painted (c : Dev nD) : (dat1 V c).arrAt 5 cfg1.N = fun y : S4x3x96x96.Idx => paintedAt V c (y 0) (y 1) (y 2) (y 3) := by
  refine (dat1 V c).arrAt_eq_of_covers 5 _ (by decide +kernel) fun t hf y => ?_
  obtain ⟨-, -, -, -, -, i5⟩ := index1 t
  have hv : ∀ a, ((win1_5.blk t).view.emb y a).val = win1_5.index t a * win1_5.size a + (y a).val :=
    fun a => Pipeline.Window.rect_emb_val _ _ _ _ rfl
  have y0 : (y 0).val < 1 := (y 0).isLt
  have e0 : ((win1_5.blk t).view.emb y 0).val = t.val := (hv 0).trans (by rw [i5]; show t.val * 1 + (y 0).val = t.val; omega)
  have e1 : (win1_5.blk t).view.emb y 1 = y 1 := Fin.ext ((hv 1).trans (at_zero (by rw [i5]; rfl)))
  have e2 : (win1_5.blk t).view.emb y 2 = y 2 := Fin.ext ((hv 2).trans (at_zero (by rw [i5]; rfl)))
  have e3 : (win1_5.blk t).view.emb y 3 = y 3 := Fin.ext ((hv 3).trans (at_zero (by rw [i5]; rfl)))
  have key : outsAt1 V c t y = paintedAt V c ((win1_5.blk t).view.emb y 0) ((win1_5.blk t).view.emb y 1)
      ((win1_5.blk t).view.emb y 2) ((win1_5.blk t).view.emb y 3) := by
    rw [outsAt1_eq V c t ((win1_5.blk t).view.emb y 0) e0, e1, e2, e3]
  refine Eq.trans ?_ key
  show (dat1 V c).after 5 t y = _
  rw [after1_5]

end Cert.KernelIdeal.Stage
-- ==== Proof.KernelIdeal.Whole.lean ====
/- The whole run of the program, at any float instance: @main from the launch to the return, region by region,
   and what every buffer holds at the end. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KernelIdeal.Decode
public import proofs.«01_k».proof.Proof.KernelIdeal.Sample

@[expose] public section

set_option maxRecDepth 16384

noncomputable section

namespace Cert.KernelIdeal.Stage

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (`θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v0]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v1, main_v2, main_c_0]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v3]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays (checked: each argument against each reference it writes). -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_c_1, main_v4, main_v5, main_c_2]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays (checked: each argument against each reference it writes). -/
theorem hostOps0_4_args : ∀ a ∈ argRefs, a ∉ hostOps0_4_W := ListAll.forall_mem_of_all_decide (by decide +kernel)

/-- No operation of `hostOps0_5` allocates a buffer. -/
theorem hostOps0_5_fresh : (hostOps0_5 : List (HloOp τ sig (Elt F))).Forall fun op => op.fresh = ∅ := by
  simp only [List.Forall]; repeat' constructor
/-- The reference each operation of `hostOps0_5` writes, in order. -/
abbrev hostOps0_5_W : List (Ref sig .tc) := [main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v6]
theorem hostOps0_5_writes : (hostOps0_5 : List (HloOp τ sig (Elt F))).Forall fun op => op.writes ⊆ (hostOps0_5_W.map (Proc.devRef (τ := τ) .tc)).toFinset :=
  StableHlo.forall_writes_sub_of_map rfl
/-- `hostOps0_5` writes none of the argument arrays (checked: each argument against each reference it writes). -/
theorem hostOps0_5_args : ∀ a ∈ argRefs, a ∉ hostOps0_5_W := ListAll.forall_mem_of_all_decide (by decide +kernel)

/-- No operation of `hostOps0_6` allocates a buffer. -/
theorem hostOps0_6_fresh : (hostOps0_6 : List (HloOp τ sig (Elt F))).Forall fun op => op.fresh = ∅ := by
  simp only [List.Forall]; repeat' constructor
/-- The reference each operation of `hostOps0_6` writes, in order. -/
abbrev hostOps0_6_W : List (Ref sig .tc) := [main_c_3, main_v7, main_v8, main_c_4, main_v9, main_v10, main_v11, main_v12, main_v13, main_v14, main_v15, main_v16, main_cst]
theorem hostOps0_6_writes : (hostOps0_6 : List (HloOp τ sig (Elt F))).Forall fun op => op.writes ⊆ (hostOps0_6_W.map (Proc.devRef (τ := τ) .tc)).toFinset :=
  StableHlo.forall_writes_sub_of_map rfl
/-- `hostOps0_6` writes none of the argument arrays (checked: each argument against each reference it writes). -/
theorem hostOps0_6_args : ∀ a ∈ argRefs, a ∉ hostOps0_6_W := ListAll.forall_mem_of_all_decide (by decide +kernel)

/-- No operation of `hostOps0_7` allocates a buffer. -/
theorem hostOps0_7_fresh : (hostOps0_7 : List (HloOp τ sig (Elt F))).Forall fun op => op.fresh = ∅ := by
  simp only [List.Forall]; repeat' constructor
/-- The reference each operation of `hostOps0_7` writes, in order. -/
abbrev hostOps0_7_W : List (Ref sig .tc) := [main_call3_v0, main_v17]
theorem hostOps0_7_writes : (hostOps0_7 : List (HloOp τ sig (Elt F))).Forall fun op => op.writes ⊆ (hostOps0_7_W.map (Proc.devRef (τ := τ) .tc)).toFinset :=
  StableHlo.forall_writes_sub_of_map rfl
/-- `hostOps0_7` writes none of the argument arrays (checked: each argument against each reference it writes). -/
theorem hostOps0_7_args : ∀ a ∈ argRefs, a ∉ hostOps0_7_W := ListAll.forall_mem_of_all_decide (by decide +kernel)

/-- No operation of `hostOps0_8` allocates a buffer. -/
theorem hostOps0_8_fresh : (hostOps0_8 : List (HloOp τ sig (Elt F))).Forall fun op => op.fresh = ∅ := by
  simp only [List.Forall]; repeat' constructor
/-- The reference each operation of `hostOps0_8` writes, in order. -/
abbrev hostOps0_8_W : List (Ref sig .tc) := [main_c_5]
theorem hostOps0_8_writes : (hostOps0_8 : List (HloOp τ sig (Elt F))).Forall fun op => op.writes ⊆ (hostOps0_8_W.map (Proc.devRef (τ := τ) .tc)).toFinset :=
  StableHlo.forall_writes_sub_of_map rfl
/-- `hostOps0_8` writes none of the argument arrays (checked: each argument against each reference it writes). -/
theorem hostOps0_8_args : ∀ a ∈ argRefs, a ∉ hostOps0_8_W := ListAll.forall_mem_of_all_decide (by decide +kernel)

/-- No operation of `hostOps0_9` allocates a buffer. -/
theorem hostOps0_9_fresh : (hostOps0_9 : List (HloOp τ sig (Elt F))).Forall fun op => op.fresh = ∅ := by
  simp only [List.Forall]; repeat' constructor
/-- The reference each operation of `hostOps0_9` writes, in order. -/
abbrev hostOps0_9_W : List (Ref sig .tc) := [main_call4_v0, main_v18]
theorem hostOps0_9_writes : (hostOps0_9 : List (HloOp τ sig (Elt F))).Forall fun op => op.writes ⊆ (hostOps0_9_W.map (Proc.devRef (τ := τ) .tc)).toFinset :=
  StableHlo.forall_writes_sub_of_map rfl
/-- `hostOps0_9` writes none of the argument arrays (checked: each argument against each reference it writes). -/
theorem hostOps0_9_args : ∀ a ∈ argRefs, a ∉ hostOps0_9_W := ListAll.forall_mem_of_all_decide (by decide +kernel)

/-- No operation of `hostOps0_10` allocates a buffer. -/
theorem hostOps0_10_fresh : (hostOps0_10 : List (HloOp τ sig (Elt F))).Forall fun op => op.fresh = ∅ := by
  simp only [List.Forall]; repeat' constructor
/-- The reference each operation of `hostOps0_10` writes, in order. -/
abbrev hostOps0_10_W : List (Ref sig .tc) := [main_v19, main_v20, main_v21, main_v22, main_v23, main_v24, main_v25, main_v26, main_v27, main_v28, main_v29, main_v30, main_v31, main_v32, main_v33, main_v34, main_v35, main_v36, main_v37, main_v38, main_v39, main_v40]
theorem hostOps0_10_writes : (hostOps0_10 : List (HloOp τ sig (Elt F))).Forall fun op => op.writes ⊆ (hostOps0_10_W.map (Proc.devRef (τ := τ) .tc)).toFinset :=
  StableHlo.forall_writes_sub_of_map rfl
/-- `hostOps0_10` writes none of the argument arrays (checked: each argument against each reference it writes). -/
theorem hostOps0_10_args : ∀ a ∈ argRefs, a ∉ hostOps0_10_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v42]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6`. -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- After `hostOps0_7`. -/
abbrev W8 : Dev nD → Valuation τ sig (Elt F) := fun c => StableHlo.after hostOps0_7 (W7 m ρ c)
/-- A reference `hostOps0_7` does not write keeps its contents across it. -/
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)
/-- After `hostOps0_8`. -/
abbrev W9 : Dev nD → Valuation τ sig (Elt F) := fun c => StableHlo.after hostOps0_8 (W8 m ρ c)
/-- A reference `hostOps0_8` does not write keeps its contents across it. -/
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)
/-- After `hostOps0_9`. -/
abbrev W10 : Dev nD → Valuation τ sig (Elt F) := fun c => StableHlo.after hostOps0_9 (W9 m ρ c)
/-- A reference `hostOps0_9` does not write keeps its contents across it. -/
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W10_args (c : Dev nD) : ∀ a ∈ argRefs, W10 m ρ c (Proc.devRef .tc a) = m ((c : Thread nD τ).loc a) :=
  fun a ha => (W10_of m ρ c a (hostOps0_9_args a ha)).trans (W9_args m ρ c a ha)
/-- After `hostOps0_10` (region 0's entry). -/
abbrev W11 : Dev nD → Valuation τ sig (Elt F) := fun c => StableHlo.after hostOps0_10 (W10 m ρ c)
/-- A reference `hostOps0_10` does not write keeps its contents across it. -/
theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h
theorem W11_args (c : Dev nD) : ∀ a ∈ argRefs, W11 m ρ c (Proc.devRef .tc a) = m ((c : Thread nD τ).loc a) :=
  fun a ha => (W11_of m ρ c a (hostOps0_10_args a ha)).trans (W10_args m ρ c a ha)
/-- The same read at the TensorCore's references (what region 0's proof data take). -/
abbrev V11 : (c : Dev nD) → (b : Ref sig .tc) → Buf (Elt F) ((c : Thread nD τ).loc b) := fun c b => W11 m ρ c b
/-- At region 0's exit: its arrays at what the pipeline leaves (the inputs as entered, each output's write-backs
    folded: `Dat.arrAt … N`), every other buffer as entered (`withArrays`). -/
def W12 (c : Dev nD) : Valuation τ sig (Elt F) :=
  Pipeline.withArrays spec0 c (W11 m ρ c) fun w => (dat0 (V11 m ρ) c).arrAt w cfg0.N
theorem W12_arr (c : Dev nD) (w : Fin cfg0.W) :
    W12 m ρ c (Proc.devRef .tc (Pipeline.arrRef spec0 w)) = (dat0 (V11 m ρ) c).arrAt w cfg0.N := by
  unfold W12; exact Pipeline.withArrays_arr spec0 launch0.win.arr_inj c _ _ w
theorem W12_of_ne (c : Dev nD) (b : Ref sig .tc) (hb : ∀ w, Pipeline.arrRef spec0 w ≠ b) :
    W12 m ρ c (Proc.devRef .tc b) = W11 m ρ c (Proc.devRef .tc b) := by
  unfold W12; exact Pipeline.withArrays_of_ne spec0 c _ _ b hb
/-- A reference that is none of region 0's OUTPUT arrays keeps its entry contents across it: an input window's
    array is never written back (`Dat.arrAt_in`, `A_eq0`); any other buffer is left as is. -/
theorem W12_of (c : Dev nD) (r : Ref sig .tc) (h : ∀ w : Fin cfg0.W, Pipeline.arrRef spec0 w = r → (cfg0.win w).isOut = false) :
    W12 m ρ c (Proc.devRef .tc r) = W11 m ρ c (Proc.devRef .tc r) := by
  by_cases hw : ∃ w : Fin cfg0.W, Pipeline.arrRef spec0 w = r
  · obtain ⟨w, rfl⟩ := hw
    exact (W12_arr m ρ c w).trans (((dat0 (V11 m ρ) c).arrAt_in w (h w rfl) _).trans (A_eq0 (V11 m ρ) c w))
  · exact W12_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn0 a ha)).trans (W11_args m ρ c a ha)
/-- The same read at the TensorCore's references (region 0's exit contents). -/
abbrev V12 : (c : Dev nD) → (b : Ref sig .tc) → Buf (Elt F) ((c : Thread nD τ).loc b) := fun c b => W12 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V11 m ρ) c).arrAt w cfg0.N = V12 m ρ c (Pipeline.arrRef spec0 w) :=
  (W12_arr m ρ c w).symm
theorem hrest0 (c : Dev nD) : ∀ b, b ∉ Finset.univ.image (Pipeline.arrRef spec0) → V12 m ρ c b = V11 m ρ c b :=
  fun b hb => W12_of_ne m ρ c b fun w e => hb (Finset.mem_image.mpr ⟨w, Finset.mem_univ _, e⟩)

/-- After `hostOps1` (region 1's entry). -/
abbrev W13 : Dev nD → Valuation τ sig (Elt F) := fun c => StableHlo.after hostOps1 (W12 m ρ c)
/-- A reference `hostOps1` does not write keeps its contents across it. -/
theorem W13_of (c : Dev nD) (r : Ref sig .tc) (h : r ∉ hostOps1_W) : W13 m ρ c (Proc.devRef .tc r) = W12 m ρ c (Proc.devRef .tc r) :=
  StableHlo.after_of_writes_sub hostOps1 _ hostOps1_writes h
theorem W13_args (c : Dev nD) : ∀ a ∈ argRefs, W13 m ρ c (Proc.devRef .tc a) = m ((c : Thread nD τ).loc a) :=
  fun a ha => (W13_of m ρ c a (hostOps1_args a ha)).trans (W12_args m ρ c a ha)
/-- The same read at the TensorCore's references (what region 1's proof data take). -/
abbrev V13 : (c : Dev nD) → (b : Ref sig .tc) → Buf (Elt F) ((c : Thread nD τ).loc b) := fun c b => W13 m ρ c b
/-- At region 1's exit: its arrays at what the pipeline leaves (the inputs as entered, each output's write-backs
    folded: `Dat.arrAt … N`), every other buffer as entered (`withArrays`). -/
def W14 (c : Dev nD) : Valuation τ sig (Elt F) :=
  Pipeline.withArrays spec1 c (W13 m ρ c) fun w => (dat1 (V13 m ρ) c).arrAt w cfg1.N
theorem W14_arr (c : Dev nD) (w : Fin cfg1.W) :
    W14 m ρ c (Proc.devRef .tc (Pipeline.arrRef spec1 w)) = (dat1 (V13 m ρ) c).arrAt w cfg1.N := by
  unfold W14; exact Pipeline.withArrays_arr spec1 launch1.win.arr_inj c _ _ w
theorem W14_of_ne (c : Dev nD) (b : Ref sig .tc) (hb : ∀ w, Pipeline.arrRef spec1 w ≠ b) :
    W14 m ρ c (Proc.devRef .tc b) = W13 m ρ c (Proc.devRef .tc b) := by
  unfold W14; exact Pipeline.withArrays_of_ne spec1 c _ _ b hb
/-- A reference that is none of region 1's OUTPUT arrays keeps its entry contents across it: an input window's
    array is never written back (`Dat.arrAt_in`, `A_eq1`); any other buffer is left as is. -/
theorem W14_of (c : Dev nD) (r : Ref sig .tc) (h : ∀ w : Fin cfg1.W, Pipeline.arrRef spec1 w = r → (cfg1.win w).isOut = false) :
    W14 m ρ c (Proc.devRef .tc r) = W13 m ρ c (Proc.devRef .tc r) := by
  by_cases hw : ∃ w : Fin cfg1.W, Pipeline.arrRef spec1 w = r
  · obtain ⟨w, rfl⟩ := hw
    exact (W14_arr m ρ c w).trans (((dat1 (V13 m ρ) c).arrAt_in w (h w rfl) _).trans (A_eq1 (V13 m ρ) c w))
  · exact W14_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn1 a ha)).trans (W13_args m ρ c a ha)
/-- The same read at the TensorCore's references (region 1's exit contents). -/
abbrev V14 : (c : Dev nD) → (b : Ref sig .tc) → Buf (Elt F) ((c : Thread nD τ).loc b) := fun c b => W14 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V13 m ρ) c).arrAt w cfg1.N = V14 m ρ c (Pipeline.arrRef spec1 w) :=
  (W14_arr m ρ c w).symm
theorem hrest1 (c : Dev nD) : ∀ b, b ∉ Finset.univ.image (Pipeline.arrRef spec1) → V14 m ρ c b = V13 m ρ c b :=
  fun b hb => W14_of_ne m ρ c b fun w e => hb (Finset.mem_image.mpr ⟨w, Finset.mem_univ _, e⟩)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V11 m ρ) c
  | ⟨1, _⟩ => fun c => dat1 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W14`, the generator register at some state. -/
abbrev Tₙ (c : Dev nD) : sProp 𝕄 := iprop(StableHlo.held (c : Thread nD τ) (Pipeline.ucRefs τ sig) (W14 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W11`, left at `W12`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V11 m ρ) c).loose
  hwaits := Pipeline.hwaits_of_owed_zero _ _ _ _ L lv 0 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec0 c (V11 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V11 m ρ c) (A_eq0 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V11 m ρ c) (V12 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W13`, left at `W14`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V13 m ρ) c).loose
  hwaits := Pipeline.hwaits_of_owed_zero _ _ _ _ L lv 1 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V13 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V13 m ρ c) (A_eq1 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V13 m ρ c) (V14 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 14 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .region (reg0 m ρ),
    .host (hseg hostOps1 hostOps1_sub hostOps1_fresh (W12 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The whole program from any memory with zero counters, at any float instance: every weakly fair execution ends, nothing
    faulting, with every buffer outside the kernels' own memory at the last boundary's contents `W14` and every semaphore
    counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W14 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨h, funext fun g => hz g (.inr (no_unscoped g.2))⟩)

/-- Every execution of the program ends, nothing faulting, with the argument arrays as launched and every semaphore counter at
    zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun r h => ⟨fun c => by
    refine ⟨?_, ?_, ?_, ?_, ?_, ?_, ?_, ?_, ?_, ?_, ?_, ?_, ?_, ?_, ?_, ?_, ?_⟩ <;>
      exact (h.1 c _ (mem_uc _ (by decide))).trans (W14_args m ρ c _ (by decide)), h.2⟩) (run m ρ)

end Cert.KernelIdeal.Stage
-- ==== Proof.KernelIdeal.Prologue.lean ====
/- What the host operations before and between the two calls leave, read at an index. -/
module

public import proofs.«01_k».proof.Proof.KernelIdeal.Painted
public import proofs.«01_k».proof.Proof.KernelIdeal.Whole
public import Idealize.ShloMosaic.Lib.StableHlo.ReadAt
public import Idealize.ShloMosaic.Lib.Routing.OpsSet

@[expose] public section

set_option maxRecDepth 16384

noncomputable section

namespace Cert.KernelIdeal.Stage

open Idealize.ShloMosaic Idealize.ShloMosaic.TcCoe Idealize.SL.Sem Cert.KernelIdeal.Gen Cert.Spec

section
variable {n0 n1 n2 n3 n4 : ℕ}
/-- Two indices of rank four with equal coordinates are equal; -/
theorem ix4_ext {a a' : Fin n0} {b b' : Fin n1} {c c' : Fin n2} {d d' : Fin n3} (h0 : a.val = a'.val) (h1 : b.val = b'.val) (h2 : c.val = c'.val)
    (h3 : d.val = d'.val) : ix4 a b c d = ix4 a' b' c' d' := by
  cases Fin.ext h0; cases Fin.ext h1; cases Fin.ext h2; cases Fin.ext h3; rfl
/-- and of rank five, -/
theorem ix5_ext {a a' : Fin n0} {b b' : Fin n1} {c c' : Fin n2} {d d' : Fin n3} {e e' : Fin n4} (h0 : a.val = a'.val) (h1 : b.val = b'.val)
    (h2 : c.val = c'.val) (h3 : d.val = d'.val) (h4 : e.val = e'.val) : ix5 a b c d e = ix5 a' b' c' d' e' := by
  cases Fin.ext h0; cases Fin.ext h1; cases Fin.ext h2; cases Fin.ext h3; cases Fin.ext h4; rfl
/-- and of rank three. -/
theorem ix3_ext {a a' : Fin n0} {b b' : Fin n1} {c c' : Fin n2} (h0 : a.val = a'.val) (h1 : b.val = b'.val) (h2 : c.val = c'.val) :
    ix3 a b c = ix3 a' b' c' := by
  cases Fin.ext h0; cases Fin.ext h1; cases Fin.ext h2; rfl
end

section
variable (V : Valuation τ sig (Elt Ideal))

/-! ### The padded operands: at the first 71 boxes, the operands -/

/-- The padded index list holds a box's own index. -/
theorem padded_index (k : Fin 71) : (StableHlo.after hostOps0_1 V (Proc.devRef .tc main_v0) : IVec S72 32) (ix1 k.castSucc)
    = (V (Proc.devRef .tc main_arg4) : IVec S71 32) (ix1 k) := by
  after_reads_at
  exact dif_pos k.isLt

/-- The index list handed to the second call is the padded list. -/
theorem index_row (k : Fin 72) : (StableHlo.after hostOps0_2 V (Proc.devRef .tc main_v1) : IVec S1x1x72 32) (ix3 0 0 k)
    = (V (Proc.devRef .tc main_v0) : IVec S72 32) (ix1 k) := by
  after_reads_at

/-- The padded box parameters hold a box's own parameters. -/
theorem padded_box (b : Fin 4) (k : Fin 71) (j : Fin 4) :
    (StableHlo.after hostOps0_7 V (Proc.devRef .tc main_v17) : FVec Ideal S4x72x4 .f32) (ix3 b k.castSucc j)
      = (V (Proc.devRef .tc main_arg1) : FVec Ideal S4x71x4 .f32) (ix3 b k j) := by
  after_reads_at
  exact dif_pos k.isLt

/-- The padded presences hold a box's own presence. -/
theorem padded_presence (b : Fin 4) (k : Fin 71) :
    (StableHlo.after hostOps0_9 V (Proc.devRef .tc main_v18) : FVec Ideal S4x72x1 .f32) (ix3 b k.castSucc 0)
      = (V (Proc.devRef .tc main_arg2) : FVec Ideal S4x71x1 .f32) (ix3 b k 0) := by
  after_reads_at
  exact dif_pos k.isLt

/-! ### The rows of the latent table that the boxes of all four images name -/

/-- The counting vector holds its own positions; -/
theorem counted (n : Fin 288) : (StableHlo.after hostOps0_2 V (Proc.devRef .tc main_v2) : IVec S288 32) (ix1 n) = BitVec.ofNat 32 n.val := by
  after_reads_at

/-- the first divisor is 72, -/
theorem size_const : (StableHlo.after hostOps0_2 V (Proc.devRef .tc main_c_0) : IVec S_ 32) ix0 = 72#32 := by
  after_reads_at

/-- and so is the second. -/
theorem size_const' : (StableHlo.after hostOps0_4 V (Proc.devRef .tc main_c_2) : IVec S_ 32) ix0 = 72#32 := by
  after_reads_at

/-- A box's image: its number divided by 72, -/
theorem quotient (n : Fin 288) (h2 : (V (Proc.devRef .tc main_v2) : IVec S288 32) (ix1 n) = BitVec.ofNat 32 n.val)
    (hc : (V (Proc.devRef .tc main_c_0) : IVec S_ 32) ix0 = 72#32) :
    (StableHlo.after hostOps0_3 V (Proc.devRef .tc main_v3) : IVec S288 32) (ix1 n) = BitVec.ofNat 32 (n.val / 72) := by
  after_reads_at
  simp only [id_eq, h2, hc]
  clear h2 hc
  revert n
  decide +kernel

/-- the first row of its image's part of the table, -/
theorem image_row (n : Fin 288) (h3 : (V (Proc.devRef .tc main_v3) : IVec S288 32) (ix1 n) = BitVec.ofNat 32 (n.val / 72)) :
    (StableHlo.after hostOps0_4 V (Proc.devRef .tc main_v5) : IVec S288 32) (ix1 n) = BitVec.ofNat 32 (36 * (n.val / 72)) := by
  after_reads_at
  simp only [h3]
  clear h3
  revert n
  decide +kernel

/-- and its number within the image. -/
theorem rest (n : Fin 288) (h2 : (V (Proc.devRef .tc main_v2) : IVec S288 32) (ix1 n) = BitVec.ofNat 32 n.val)
    (hc : (V (Proc.devRef .tc main_c_2) : IVec S_ 32) ix0 = 72#32) :
    (StableHlo.after hostOps0_5 V (Proc.devRef .tc main_v6) : IVec S288 32) (ix1 n) = BitVec.ofNat 32 (n.val % 72) := by
  after_reads_at
  simp only [id_eq, h2, hc]
  clear h2 hc
  revert n
  decide +kernel

/-- A remainder by 72 isn't negative, so that the lookup leaves it as it is. -/
theorem rest_kept : ∀ n : Fin 288, Scalar.select (IntOp.cmpi .slt (BitVec.ofNat 32 (n.val % 72)) 0#32) (IntOp.addi (BitVec.ofNat 32 (n.val % 72)) 72#32)
    (BitVec.ofNat 32 (n.val % 72)) = BitVec.ofNat 32 (n.val % 72) := by decide +kernel

/-- The start of the lookup for position n is n's remainder by 72. -/
theorem rest_start (n : Fin 288) (h6 : (V (Proc.devRef .tc main_v6) : IVec S288 32) (ix1 n) = BitVec.ofNat 32 (n.val % 72)) :
    (StableHlo.after hostOps0_6 V (Proc.devRef .tc main_v12) : IVec S288x1 32) (ix2 n 0) = BitVec.ofNat 32 (n.val % 72) := by
  after_reads_at
  simp only [h6]
  exact rest_kept n

/-- The row that a box names: its index behind the first row of its image. -/
theorem flat_index (t : Fin 9) (l : Fin 32) (n : Fin 288) (hn : n.val = 32 * t.val + l.val)
    (h6 : (V (Proc.devRef .tc main_v6) : IVec S288 32) (ix1 n) = BitVec.ofNat 32 (n.val % 72))
    (h5 : (V (Proc.devRef .tc main_v5) : IVec S288 32) (ix1 n) = BitVec.ofNat 32 (36 * (n.val / 72)))
    (k : Fin 72) (hk : k.val = n.val % 72) :
    (StableHlo.after hostOps0_6 V (Proc.devRef .tc main_v15) : IVec S9x1x32 32) (ix3 t 0 l)
      = IntOp.addi (BitVec.ofNat 32 (36 * (n.val / 72))) ((V (Proc.devRef .tc main_v0) : IVec S72 32) (ix1 k)) := by
  have hs := rest_start V n h6
  generalize hI : (StableHlo.after hostOps0_6 V (Proc.devRef .tc main_v12) : IVec S288x1 32) = I at hs
  have hg : Host.gather gather_S72_S288x1_S288_n_0_n_n_0_1_1 (V (Proc.devRef .tc main_v0) : IVec S72 32) I (ix1 n) = (V (Proc.devRef .tc main_v0) : IVec S72 32) (ix1 k) :=
    Routing.gather_take1 _ rfl rfl rfl rfl _ I n k (hs.trans (by rw [hk])) (by decide)
  have e : (ix1 (⟨t.val * 32 + l.val, by omega⟩ : Fin 288)) = ix1 n := congrArg ix1 (Fin.ext (by show t.val * 32 + l.val = n.val; omega))
  rw [← hg, ← h5, ← hI, ← e]
  after_reads_at

/-- Row 36 b + r of the flattened latent table is row r of image b. -/
theorem table_row (b : Fin 4) (r : Fin 36) (g : Fin 144) (hg : g.val = 36 * b.val + r.val) (c : Fin 64) :
    (StableHlo.after hostOps0_6 V (Proc.devRef .tc main_v16) : FVec Ideal S144x64 .f32) (ix2 g c)
      = (V (Proc.devRef .tc main_arg0) : FVec Ideal S4x36x64 .f32) (ix3 b r c) := by
  after_reads_at
  exact congrArg (V (Proc.devRef .tc main_arg0)) (ix3_ext (by dsimp only; omega) (by dsimp only; omega) rfl)

/-! ### The weights -/

/-- The first layer's weights, as the first call gets them, are the argument's. -/
theorem weights1 (w : FVec Ideal S64x128x2x2 .f32) (hw : V (Proc.devRef .tc main_arg5) = w) : packed (StableHlo.after hostOps0_10 V (Proc.devRef .tc main_v38)) = weights w := by
  subst hw
  funext c o a b
  unfold packed weights
  after_reads_at
  exact congrArg (V (Proc.devRef .tc main_arg5)) (ix4_ext rfl (by first | rfl | omega | (dsimp only; omega)) (by first | rfl | omega | (dsimp only; omega)) (by first | rfl | omega | (dsimp only; omega)))
/-- The second layer's weights, as the first call gets them, are the argument's. -/
theorem weights2 (w : FVec Ideal S128x128x2x2 .f32) (hw : V (Proc.devRef .tc main_arg7) = w) : packed (StableHlo.after hostOps0_10 V (Proc.devRef .tc main_v40)) = weights w := by
  subst hw
  funext c o a b
  unfold packed weights
  after_reads_at
  exact congrArg (V (Proc.devRef .tc main_arg7)) (ix4_ext rfl (by first | rfl | omega | (dsimp only; omega)) (by first | rfl | omega | (dsimp only; omega)) (by first | rfl | omega | (dsimp only; omega)))
/-- The third layer's weights, as the first call gets them, are the argument's. -/
theorem weights3 (w : FVec Ideal S128x64x2x2 .f32) (hw : V (Proc.devRef .tc main_arg9) = w) : stacked (StableHlo.after hostOps0_10 V (Proc.devRef .tc main_v26)) = weights w := by
  subst hw
  funext c o a b
  unfold stacked weights
  after_reads_at
/-- The fourth layer's weights, as the first call gets them, are the argument's. -/
theorem weights4 (w : FVec Ideal S64x64x2x2 .f32) (hw : V (Proc.devRef .tc main_arg11) = w) : stacked (StableHlo.after hostOps0_10 V (Proc.devRef .tc main_v29)) = weights w := by
  subst hw
  funext c o a b
  unfold stacked weights
  after_reads_at
/-- The fifth layer's weights, as the first call gets them, are the argument's. -/
theorem weights5 (w : FVec Ideal S64x32x2x2 .f32) (hw : V (Proc.devRef .tc main_arg13) = w) : stacked (StableHlo.after hostOps0_10 V (Proc.devRef .tc main_v32)) = weights w := by
  subst hw
  funext c o a b
  unfold stacked weights
  after_reads_at
/-- The last layer's weights, as the first call gets them, are the argument's. -/
theorem weights6 (w : FVec Ideal S32x3x2x2 .f32) (hw : V (Proc.devRef .tc main_arg15) = w) : stacked (StableHlo.after hostOps0_10 V (Proc.devRef .tc main_v35)) = weights w := by
  subst hw
  funext c o a b
  unfold stacked weights
  after_reads_at
/-- The first layer's bias, as the first call gets it, is the argument's. -/
theorem bias1 (w : FVec Ideal S128 .f32) (hw : V (Proc.devRef .tc main_arg6) = w) : row (co := 128) (StableHlo.after hostOps0_10 V (Proc.devRef .tc main_v21)) = bias w := by
  subst hw
  funext o
  unfold row bias
  after_reads_at
/-- The second layer's bias, as the first call gets it, is the argument's. -/
theorem bias2 (w : FVec Ideal S128 .f32) (hw : V (Proc.devRef .tc main_arg8) = w) : row (co := 128) (StableHlo.after hostOps0_10 V (Proc.devRef .tc main_v24)) = bias w := by
  subst hw
  funext o
  unfold row bias
  after_reads_at
/-- The third layer's bias, as the first call gets it, is the argument's. -/
theorem bias3 (w : FVec Ideal S64 .f32) (hw : V (Proc.devRef .tc main_arg10) = w) : row (co := 64) (StableHlo.after hostOps0_10 V (Proc.devRef .tc main_v27)) = bias w := by
  subst hw
  funext o
  unfold row bias
  after_reads_at
/-- The fourth layer's bias, as the first call gets it, is the argument's. -/
theorem bias4 (w : FVec Ideal S64 .f32) (hw : V (Proc.devRef .tc main_arg12) = w) : row (co := 64) (StableHlo.after hostOps0_10 V (Proc.devRef .tc main_v30)) = bias w := by
  subst hw
  funext o
  unfold row bias
  after_reads_at
/-- The fifth layer's bias, as the first call gets it, is the argument's. -/
theorem bias5 (w : FVec Ideal S32 .f32) (hw : V (Proc.devRef .tc main_arg14) = w) : row (co := 32) (StableHlo.after hostOps0_10 V (Proc.devRef .tc main_v33)) = bias w := by
  subst hw
  funext o
  unfold row bias
  after_reads_at
/-- The last layer's bias, as the first call gets it, is the argument's. -/
theorem bias6 (w : FVec Ideal S3 .f32) (hw : V (Proc.devRef .tc main_arg16) = w) : row (co := 3) (StableHlo.after hostOps0_10 V (Proc.devRef .tc main_v36)) = bias w := by
  subst hw
  funext o
  unfold row bias
  after_reads_at

/-! ### Between the calls: a box of an image among the first call's blocks -/

/-- The decoded patches, regrouped by image: box k of image b is box l of group t where 72 b + k = 32 t + l, and a column is a
    channel and a column of the patch. -/
theorem regrouped (b : Fin 4) (k : Fin 72) (r : Fin 64) (j : Fin 192) (t : Fin 9) (l : Fin 32) (ch : Fin 3) (s : Fin 64)
    (hb : 72 * b.val + k.val = 32 * t.val + l.val) (hj : j.val = 64 * ch.val + s.val) :
    (StableHlo.after hostOps1 V (Proc.devRef .tc main_v42) : FVec Ideal S4x72x64x192 .f32) (ix4 b k r j)
      = (V (Proc.devRef .tc main_v41) : FVec Ideal S9x32x64x3x64 .f32) (ix5 t l r ch s) := by
  after_reads_at
  exact congrArg (V (Proc.devRef .tc main_v41)) (ix5_ext (by dsimp only; omega) (by dsimp only; omega) rfl (by dsimp only; omega) (by dsimp only; omega))
end

end Cert.KernelIdeal.Stage
-- ==== Proof.Sampling.lean ====
/- Sampling a patch with the triangle function equals the bilinear interpolation of its four nearest pixels. -/
module

public import proofs.«01_k».proof.Proof.Spec

@[expose] public section

noncomputable section

namespace Cert.Spec

open Idealize.ShloMosaic

/-- The larger of two real numbers, in the extended reals; -/
theorem coe_max (a b : ℝ) : ((max a b : ℝ) : EReal) = max (a : EReal) b := EReal.coe_strictMono.monotone.map_max
/-- and the smaller. -/
theorem coe_min (a b : ℝ) : ((min a b : ℝ) : EReal) = min (a : EReal) b := EReal.coe_strictMono.monotone.map_min

/-- The triangle function on real numbers. -/
def hat (x s : ℝ) : ℝ := max (1 - |x - s|) 0

/-- The triangle function of a real coordinate; -/
theorem tri_coe (x s : ℝ) : tri x s = (hat x s : ℝ) := by
  unfold tri hat
  show max ((1 : EReal) - max ((x : EReal) - s) (-((x : EReal) - s))) 0 = _
  rw [abs_eq_max_neg, ← EReal.coe_sub, ← EReal.coe_neg, ← coe_max, ← EReal.coe_one, ← EReal.coe_sub, ← EReal.coe_zero, ← coe_max]

/-- it is zero at an infinite coordinate, -/
theorem tri_top (s : ℝ) : tri ⊤ s = 0 := by
  unfold tri
  show max ((1 : EReal) - max ((⊤ : EReal) - s) (-((⊤ : EReal) - s))) 0 = _
  simp

/-- of either sign. -/
theorem tri_bot (s : ℝ) : tri ⊥ s = 0 := by
  unfold tri
  show max ((1 : EReal) - max ((⊥ : EReal) - s) (-((⊥ : EReal) - s))) 0 = _
  simp

/-- The number that a small pixel counter converts to. -/
theorem count_value (s : Fin 64) : FloatOps.sitofp (F := Ideal) .f32 (BitVec.ofNat 32 s.val) = ((s.val : ℝ) : EReal) := by
  show ((((BitVec.ofNat 32 s.val).toInt : ℤ) : ℝ) : EReal) = _
  have h : (BitVec.ofNat 32 s.val).toInt = (s.val : ℤ) := by
    have := s.isLt
    rw [BitVec.toInt_eq_toNat_of_lt (by rw [BitVec.toNat_ofNat]; omega), BitVec.toNat_ofNat]
    omega
  rw [h]; norm_cast

/-- The triangle function at an integer: one of the two nearest integers carries `1 - f`, the next one `f`. -/
theorem hat_int (x : ℝ) (m : ℤ) :
    hat x m = (if m = ⌊x⌋ then 1 - (x - ⌊x⌋) else 0) + (if m = ⌊x⌋ + 1 then x - ⌊x⌋ else 0) := by
  have h0 := Int.floor_le x
  have h1 := Int.lt_floor_add_one x
  unfold hat
  by_cases a : m = ⌊x⌋
  · subst a
    rw [if_pos rfl, if_neg (by omega), abs_of_nonneg (by linarith), max_eq_left (by linarith), add_zero]
  · by_cases b : m = ⌊x⌋ + 1
    · rw [if_neg a, if_pos b, b]
      push_cast
      rw [abs_of_nonpos (by linarith), max_eq_left (by linarith)]
      ring
    · rw [if_neg a, if_neg b, add_zero]
      refine max_eq_right ?_
      rcases lt_or_gt_of_ne a with c | c
      · have : (m : ℝ) + 1 ≤ ⌊x⌋ := by exact_mod_cast (show m + 1 ≤ ⌊x⌋ by omega)
        rw [abs_of_nonneg (by linarith)]; linarith
      · have : (⌊x⌋ : ℝ) + 2 ≤ m := by exact_mod_cast (show ⌊x⌋ + 2 ≤ m by omega)
        rw [abs_of_nonpos (by linarith)]; linarith

/-- A line of 64 values continued by zero. -/
def line (h : Fin 64 → ℝ) (m : ℤ) : ℝ := if a : 0 ≤ m ∧ m ≤ 63 then h ⟨m.toNat, by omega⟩ else 0

/-- A sum with one weighted position is the line there, times the weight. -/
theorem sum_at (h : Fin 64 → ℝ) (m : ℤ) (c : ℝ) : ∑ s : Fin 64, (if (s.val : ℤ) = m then c else 0) * h s = line h m * c := by
  unfold line
  split
  · rename_i a
    rw [Finset.sum_eq_single ⟨m.toNat, by omega⟩]
    · rw [if_pos (show ((m.toNat : ℕ) : ℤ) = m by omega), mul_comm]
    · intro s _ hs
      rw [if_neg (fun e => hs (Fin.ext (show s.val = m.toNat by omega))), zero_mul]
    · exact fun e => absurd (Finset.mem_univ _) e
  · rename_i a
    rw [zero_mul]
    refine Finset.sum_eq_zero fun s _ => ?_
    have := s.isLt
    rw [if_neg (by omega), zero_mul]

/-- A sum against the triangle function is the linear interpolation of the two nearest values. -/
theorem hat_sum (h : Fin 64 → ℝ) (x : ℝ) :
    ∑ s : Fin 64, hat x (s.val : ℝ) * h s = line h ⌊x⌋ * (1 - (x - ⌊x⌋)) + line h (⌊x⌋ + 1) * (x - ⌊x⌋) := by
  rw [← sum_at, ← sum_at, ← Finset.sum_add_distrib]
  refine Finset.sum_congr rfl fun s _ => ?_
  rw [show hat x (s.val : ℝ) = hat x ((s.val : ℤ) : ℝ) by norm_cast, hat_int]
  ring

/-- The pixel that a coordinate names: clamped into the patch, converted to a word, a negative word wrapped. -/
def pixelWord (x : EReal) : BitVec 32 :=
  FloatOps.fptosi (F := Ideal) (φ := .f32) 32 (min (FloatOps.sitofp (F := Ideal) .f32 63#32) (max (FloatOps.sitofp (F := Ideal) .f32 0#32) x))
/-- The word of a coordinate with a negative one counted from the end; -/
def wrapped (v : BitVec 32) : BitVec 32 := Scalar.select (IntOp.cmpi .slt v 0#32) (v + 64#32) v
/-- and the position of the patch that is read for it. -/
def pixel (x : EReal) : Fin 64 := ⟨min (wrapped (pixelWord x)).toInt.toNat 63, by omega⟩

/-- The word of a whole coordinate inside the patch is that number; -/
theorem pixelWord_coe (m : ℤ) (h0 : 0 ≤ m) (h1 : m ≤ 63) : pixelWord ((m : ℝ) : EReal) = BitVec.ofInt 32 m := by
  unfold pixelWord
  have e63 : FloatOps.sitofp (F := Ideal) .f32 63#32 = ((63 : ℝ) : EReal) := by
    show ((((63#32 : BitVec 32).toInt : ℤ) : ℝ) : EReal) = _
    rw [show (63#32 : BitVec 32).toInt = 63 by decide]; norm_cast
  have e0 : FloatOps.sitofp (F := Ideal) .f32 0#32 = ((0 : ℝ) : EReal) := by
    show ((((0#32 : BitVec 32).toInt : ℤ) : ℝ) : EReal) = _
    rw [show (0#32 : BitVec 32).toInt = 0 by decide]; norm_cast
  have r0 : (0 : ℝ) ≤ m := by exact_mod_cast h0
  have r1 : (m : ℝ) ≤ 63 := by exact_mod_cast h1
  rw [e63, e0, ← coe_max, max_eq_right r0, ← coe_min, min_eq_right r1]
  show BitVec.ofInt 32 (max _ (min _ (if (0 : ℝ) ≤ m then ⌊(m : ℝ)⌋ else ⌈(m : ℝ)⌉))) = _
  rw [if_pos r0, Int.floor_intCast]
  congr 1
  norm_num
  omega

/-- a number inside the patch is read as it is, -/
theorem wrapped_small : ∀ k : Fin 64, min (wrapped (BitVec.ofNat 32 k.val)).toInt.toNat 63 = k.val := by decide +kernel

/-- so that the position read is the coordinate. -/
theorem pixel_coe (m : ℤ) (h0 : 0 ≤ m) (h1 : m ≤ 63) : pixel ((m : ℝ) : EReal) = ⟨m.toNat, by omega⟩ := by
  unfold pixel
  simp only [pixelWord_coe m h0 h1]
  refine Fin.ext ?_
  show min (wrapped (BitVec.ofInt 32 m)).toInt.toNat 63 = m.toNat
  obtain ⟨k, rfl⟩ := Int.eq_ofNat_of_zero_le h0
  rw [show BitVec.ofInt 32 ((k : ℕ) : ℤ) = BitVec.ofNat 32 k from BitVec.ofInt_natCast ..]
  exact wrapped_small ⟨k, by omega⟩

/-- The bit that says that a pixel's coordinates lie in the patch. -/
def insideBit (x y : EReal) : BitVec 1 :=
  IntOp.andi (IntOp.andi (IntOp.andi (FloatOps.cmpf (F := Ideal) (φ := .f32) .oge x 0) (FloatOps.cmpf (F := Ideal) (φ := .f32) .ole x (Ideal.ofBits .f32 1115422720#32)))
    (FloatOps.cmpf (F := Ideal) (φ := .f32) .oge y 0)) (FloatOps.cmpf (F := Ideal) (φ := .f32) .ole y (Ideal.ofBits .f32 1115422720#32))

/-- The constant that bounds the patch is 63. -/
theorem last_pixel : Ideal.ofBits .f32 1115422720#32 = ((63 : ℝ) : EReal) := by
  simp [Ideal.ofBits, Ideal.ieee, -EReal.coe_mul]; norm_num

/-- The bit that says whether a corner lies in the patch. -/
theorem insideBit_eq (x y : EReal) : insideBit x y = BitVec.ofBool (decide (((0 ≤ x ∧ x ≤ ((63 : ℝ) : EReal)) ∧ 0 ≤ y) ∧ y ≤ ((63 : ℝ) : EReal))) := by
  unfold insideBit
  rw [last_pixel]
  show BitVec.ofBool (decide (0 ≤ x)) &&& BitVec.ofBool (decide (x ≤ ((63 : ℝ) : EReal))) &&& BitVec.ofBool (decide (0 ≤ y)) &&& BitVec.ofBool (decide (y ≤ ((63 : ℝ) : EReal))) = _
  by_cases a : 0 ≤ x <;> by_cases b : x ≤ ((63 : ℝ) : EReal) <;> by_cases c : 0 ≤ y <;> by_cases d : y ≤ ((63 : ℝ) : EReal) <;> simp [a, b, c, d]

/-- One of the four nearest pixels with its weight: zero outside the patch. -/
def corner (g : Fin 64 → Fin 64 → EReal) (x y w : EReal) : EReal :=
  Scalar.select (insideBit x y) (g (pixel y) (pixel x)) 0 * w

/-- The bilinear interpolation of a patch at row `y` and column `x`. -/
def sampled (g : Fin 64 → Fin 64 → EReal) (x y : EReal) : EReal :=
  corner g (Ideal.liftRound Int.floor x) (Ideal.liftRound Int.floor y) ((1 - (x - Ideal.liftRound Int.floor x)) * (1 - (y - Ideal.liftRound Int.floor y))) +
        corner g (Ideal.liftRound Int.floor x + 1) (Ideal.liftRound Int.floor y) ((x - Ideal.liftRound Int.floor x) * (1 - (y - Ideal.liftRound Int.floor y))) +
      corner g (Ideal.liftRound Int.floor x) (Ideal.liftRound Int.floor y + 1) ((1 - (x - Ideal.liftRound Int.floor x)) * (y - Ideal.liftRound Int.floor y)) +
    corner g (Ideal.liftRound Int.floor x + 1) (Ideal.liftRound Int.floor y + 1) ((x - Ideal.liftRound Int.floor x) * (y - Ideal.liftRound Int.floor y))

/-- A corner outside the patch contributes nothing. -/
theorem corner_outside (g : Fin 64 → Fin 64 → EReal) (x y w : EReal) (h : ¬(((0 ≤ x ∧ x ≤ ((63 : ℝ) : EReal)) ∧ 0 ≤ y) ∧ y ≤ ((63 : ℝ) : EReal))) :
    corner g x y w = 0 := by
  unfold corner
  rw [insideBit_eq, decide_eq_false h]
  exact zero_mul w

/-- Lines of a patch as real numbers continued by zero in both directions. -/
theorem corner_coe (h : Fin 64 → Fin 64 → ℝ) (m k : ℤ) (w : ℝ) :
    corner (fun r s => (h r s : EReal)) ((m : ℝ) : EReal) ((k : ℝ) : EReal) w = ((line (fun r => line (h r) m) k * w : ℝ) : EReal) := by
  have c0 : ∀ z : ℤ, (0 : EReal) ≤ ((z : ℝ) : EReal) ↔ 0 ≤ z := fun z => by
    rw [← EReal.coe_zero, EReal.coe_le_coe_iff]; norm_cast
  have c1 : ∀ z : ℤ, ((z : ℝ) : EReal) ≤ ((63 : ℝ) : EReal) ↔ z ≤ 63 := fun z => by
    rw [EReal.coe_le_coe_iff]; norm_cast
  by_cases hm : 0 ≤ m ∧ m ≤ 63
  · by_cases hk : 0 ≤ k ∧ k ≤ 63
    · unfold corner
      rw [insideBit_eq, decide_eq_true ⟨⟨⟨(c0 m).2 hm.1, (c1 m).2 hm.2⟩, (c0 k).2 hk.1⟩, (c1 k).2 hk.2⟩, pixel_coe m hm.1 hm.2, pixel_coe k hk.1 hk.2]
      unfold line
      simp only [dif_pos hk, dif_pos hm, EReal.coe_mul]
      rfl
    · rw [corner_outside _ _ _ _ (by rw [c0, c1, c0, c1]; tauto)]
      unfold line
      rw [dif_neg hk, zero_mul]
      rfl
  · rw [corner_outside _ _ _ _ (by rw [c0, c1, c0, c1]; tauto)]
    unfold line
    simp only [dif_neg hm]
    split <;> simp

/-- The triangle weights, each times one more weight, give the linear interpolation times that weight. -/
theorem hat_sum_left (h : Fin 64 → ℝ) (x : ℝ) (w : ℝ) :
    ∑ s : Fin 64, hat x (s.val : ℝ) * w * h s = (line h ⌊x⌋ * (1 - (x - ⌊x⌋)) + line h (⌊x⌋ + 1) * (x - ⌊x⌋)) * w := by
  rw [← hat_sum, Finset.sum_mul]
  exact Finset.sum_congr rfl fun s _ => by ring

/-- The line of a sum; -/
theorem line_add (f g : Fin 64 → ℝ) (m : ℤ) : line (fun r => f r + g r) m = line f m + line g m := by
  unfold line; split <;> simp
/-- and of a multiple. -/
theorem line_mul (f : Fin 64 → ℝ) (c : ℝ) (m : ℤ) : line (fun r => f r * c) m = line f m * c := by
  unfold line; split <;> simp

/-- A finite sum of real numbers is the same sum as extended reals. -/
theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- The two sums against triangle functions equal the bilinear interpolation: outside the patch, and at an infinite
    coordinate, both are zero. -/
theorem sampled_eq (h : Fin 64 → Fin 64 → ℝ) (x y : EReal) (w : ℝ) :
    ∑ s : Fin 64, (∑ r : Fin 64, tri y (FloatOps.sitofp (F := Ideal) .f32 (BitVec.ofNat 32 r.val)) * (w : EReal) * (h r s : EReal)) *
        tri x (FloatOps.sitofp (F := Ideal) .f32 (BitVec.ofNat 32 s.val))
      = sampled (fun r s => (h r s : EReal)) x y * (w : EReal) := by
  simp only [count_value]
  have far : ∀ z : EReal, (z = ⊥ ∨ z = ⊤) → ¬((0 : EReal) ≤ z ∧ z ≤ ((63 : ℝ) : EReal)) := by
    rintro z (rfl | rfl) ⟨a, b⟩
    · exact absurd a (by simp)
    · exact absurd b (by simp)
  have nx : ∀ z : EReal, (z = ⊥ ∨ z = ⊤) → Ideal.liftRound Int.floor z = z ∧ Ideal.liftRound Int.floor z + 1 = z := by
    rintro z (rfl | rfl)
    · exact ⟨rfl, EReal.bot_add 1⟩
    · exact ⟨rfl, EReal.top_add_coe 1⟩
  by_cases hx : x = ⊥ ∨ x = ⊤
  · have t : ∀ s : ℝ, tri x s = 0 := by rcases hx with rfl | rfl; exacts [tri_bot, tri_top]
    simp only [t, mul_zero, Finset.sum_const_zero]
    unfold sampled
    rw [(nx x hx).2, (nx x hx).1, corner_outside _ _ _ _ (fun q => far x hx q.1.1), corner_outside _ _ _ _ (fun q => far x hx q.1.1),
      corner_outside _ _ _ _ (fun q => far x hx q.1.1), corner_outside _ _ _ _ (fun q => far x hx q.1.1)]
    simp
  by_cases hy : y = ⊥ ∨ y = ⊤
  · have t : ∀ s : ℝ, tri y s = 0 := by rcases hy with rfl | rfl; exacts [tri_bot, tri_top]
    simp only [t, zero_mul, Finset.sum_const_zero]
    unfold sampled
    rw [(nx y hy).2, (nx y hy).1, corner_outside _ _ _ _ (fun q => far y hy ⟨q.1.2, q.2⟩), corner_outside _ _ _ _ (fun q => far y hy ⟨q.1.2, q.2⟩),
      corner_outside _ _ _ _ (fun q => far y hy ⟨q.1.2, q.2⟩), corner_outside _ _ _ _ (fun q => far y hy ⟨q.1.2, q.2⟩)]
    simp
  lift x to ℝ using ⟨fun e => hx (Or.inr e), fun e => hx (Or.inl e)⟩
  lift y to ℝ using ⟨fun e => hy (Or.inr e), fun e => hy (Or.inl e)⟩
  simp only [tri_coe, ← EReal.coe_mul, ← coe_sum]
  have fl : ∀ z : ℝ, Ideal.liftRound Int.floor (z : EReal) = ((⌊z⌋ : ℝ) : EReal) := fun z => rfl
  have su : ∀ z : ℝ, ((⌊z⌋ : ℝ) : EReal) + 1 = (((⌊z⌋ + 1 : ℤ) : ℝ) : EReal) := fun z => by push_cast; rfl
  unfold sampled
  rw [fl, fl, su, su]
  simp only [← EReal.coe_one, ← EReal.coe_sub, ← EReal.coe_mul, corner_coe, ← EReal.coe_add]
  refine congrArg _ ?_
  simp only [hat_sum_left]
  have e : ∀ s : Fin 64, (line (fun r => h r s) ⌊y⌋ * (1 - (y - ⌊y⌋)) + line (fun r => h r s) (⌊y⌋ + 1) * (y - ⌊y⌋)) * w * hat x (s.val : ℝ)
      = hat x (s.val : ℝ) * ((line (fun r => h r s) ⌊y⌋ * (1 - (y - ⌊y⌋)) + line (fun r => h r s) (⌊y⌋ + 1) * (y - ⌊y⌋)) * w) := fun s => mul_comm _ _
  simp only [e]
  rw [hat_sum]
  have sw : ∀ m k : ℤ, line (fun s => line (fun r => h r s) k) m = line (fun r => line (h r) m) k := by
    intro m k
    unfold line
    split <;> split <;> simp
  simp only [line_mul, line_add, sw]
  ring

end Cert.Spec
-- ==== Proof.Softmax.lean ====
/- The softmax of finite depths: real numbers, and the same whichever finite number is subtracted before the exponential. -/
module

public import proofs.«01_k».proof.Proof.Sampling

@[expose] public section

noncomputable section

namespace Cert.Spec

open Idealize.ShloMosaic

/-- The share of one of several depths. -/
def share {n : ℕ} (D : Fin n → ℝ) (k : Fin n) : ℝ := Real.exp (D k) / ∑ l, Real.exp (D l)

/-- The exponential of a difference of real numbers; -/
theorem exp_sub (d M : ℝ) : Ideal.exp ((d : EReal) - M) = ((Real.exp d * (Real.exp M)⁻¹ : ℝ) : EReal) := by
  rw [← EReal.coe_sub]
  show ((Real.exp (d - M) : ℝ) : EReal) = _
  rw [Real.exp_sub, div_eq_mul_inv]

/-- and the sum of such exponentials, -/
theorem total_exp {n : ℕ} (D : Fin n → ℝ) (M : ℝ) :
    ∑ l, Ideal.exp ((D l : EReal) - M) = (((∑ l, Real.exp (D l)) * (Real.exp M)⁻¹ : ℝ) : EReal) := by
  simp only [exp_sub]
  rw [← coe_sum, Finset.sum_mul]

/-- which is positive if there is a box. -/
theorem total_pos {n : ℕ} (D : Fin n → ℝ) (k : Fin n) : 0 < ∑ l, Real.exp (D l) :=
  Finset.sum_pos (fun l _ => Real.exp_pos _) ⟨k, Finset.mem_univ k⟩

/-- The exponentials of shifted depths divided by their sum are the shares. -/
theorem softmax_eq {n : ℕ} (D : Fin n → ℝ) (M : ℝ) (k : Fin n) :
    Ideal.div (Ideal.exp ((D k : EReal) - M)) (∑ l, Ideal.exp ((D l : EReal) - M)) = (share D k : EReal) := by
  have hs := total_pos D k
  have hM := Real.exp_pos M
  rw [total_exp, exp_sub, Ideal.div_coe (by positivity), ← EReal.coe_mul]
  unfold share
  congr 1
  field_simp

/-- Zero divided by that sum is zero. -/
theorem softmax_zero {n : ℕ} (D : Fin n → ℝ) (M : ℝ) (k : Fin n) : Ideal.div 0 (∑ l, Ideal.exp ((D l : EReal) - M)) = 0 := by
  have hs := total_pos D k
  have hM := Real.exp_pos M
  rw [total_exp, Ideal.div_coe (by positivity), zero_mul]

/-- The constant from which the largest depth is folded is the least extended real. -/
theorem least_word : Ideal.ofBits .f32 4286578688#32 = ⊥ := by
  simp [Ideal.ofBits, Ideal.ieee]

/-- The depth of an absent box is -1000. -/
theorem absent_coe : absent = ((-1000 : ℝ) : EReal) := by
  unfold absent
  simp [Ideal.ofBits, Ideal.ieee, -EReal.coe_mul]; norm_num

/-- The greatest of finitely many finite numbers is finite. -/
theorem greatest_coe {ι : Type} (s : Finset ι) (f : ι → EReal) (hs : s.Nonempty) (hf : ∀ i ∈ s, ∃ v : ℝ, f i = v) :
    ∃ M : ℝ, Finset.fold max (Ideal.ofBits .f32 4286578688#32) f s = M := by
  rw [least_word]
  have h0 : ⊥ < Finset.fold max ⊥ f s := by
    obtain ⟨i, hi⟩ := hs
    obtain ⟨v, hv⟩ := hf i hi
    exact (Finset.lt_fold_max _).mpr (Or.inr ⟨i, hi, by rw [hv]; exact EReal.bot_lt_coe v⟩)
  have h1 : Finset.fold max ⊥ f s < ⊤ := (Finset.fold_max_lt _).mpr ⟨bot_lt_top, fun i hi => by
    obtain ⟨v, hv⟩ := hf i hi
    rw [hv]; exact EReal.coe_lt_top v⟩
  exact ⟨_, (EReal.coe_toReal h1.ne h0.ne').symm⟩

/-- The logistic function's value is finite everywhere. -/
theorem logistic_coe (x : EReal) : ∃ v : ℝ, Ideal.logistic x = v := by
  induction x with
  | bot => exact ⟨0, by simp⟩
  | top => exact ⟨1, by simp⟩
  | coe r => exact ⟨_, Ideal.logistic_coe r⟩

end Cert.Spec
-- ==== Proof.Scene.lean ====
/- The picture that both programs paint: the boxes' decoded patches, resampled on the canvas and blended by depth. -/
module

public import proofs.«01_k».proof.Proof.Softmax

@[expose] public section

noncomputable section

namespace Cert.Spec

open Idealize.ShloMosaic

/-- A box's depth: its row of the depth table where the box is present, minus one thousand where it is not. -/
def depth (P : (⟨3, ![4, 71, 1]⟩ : Shape).Idx → EReal) (T : (⟨3, ![4, 36, 1]⟩ : Shape).Idx → EReal) (at_ : Fin 71 → Fin 36) (b : Fin 4) (k : Fin 71) : EReal :=
  if P (ix3 b k 0) = 1 then T (ix3 b (at_ k) 0) else absent

/-- The depths are finite where the table is. -/
theorem depth_coe (P : (⟨3, ![4, 71, 1]⟩ : Shape).Idx → EReal) (T : (⟨3, ![4, 36, 1]⟩ : Shape).Idx → EReal) (at_ : Fin 71 → Fin 36)
    (hT : ∀ b r, ∃ v : ℝ, T (ix3 b r 0) = v) : ∃ D : Fin 4 → Fin 71 → ℝ, ∀ b k, depth P T at_ b k = (D b k : EReal) := by
  have h : ∀ b k, ∃ v : ℝ, depth P T at_ b k = v := fun b k => by
    unfold depth
    split
    · exact hT b (at_ k)
    · exact ⟨-1000, absent_coe⟩
  choose D hD using h
  exact ⟨D, hD⟩

/-- A box's decoded patch. -/
def patch (N : Net) (Z : (⟨3, ![4, 36, 64]⟩ : Shape).Idx → EReal) (at_ : Fin 71 → Fin 36) (b : Fin 4) (k : Fin 71) (ch : Fin 3) : Fin 64 → Fin 64 → EReal :=
  fun r s => Ideal.logistic (N.logit (fun c => Z (ix3 b (at_ k) c)) r.val s.val ch)

/-- The picture at a pixel: each box's patch resampled there, weighted by the box's share of the exponentiated depths. -/
def scene (N : Net) (Z : (⟨3, ![4, 36, 64]⟩ : Shape).Idx → EReal) (B : (⟨3, ![4, 71, 4]⟩ : Shape).Idx → EReal) (at_ : Fin 71 → Fin 36)
    (D : Fin 4 → Fin 71 → ℝ) (b : Fin 4) (ch : Fin 3) (p q : Fin 96) : EReal :=
  ∑ k : Fin 71, sampled (patch N Z at_ b k ch) (coord (B (ix3 b k 0)) (B (ix3 b k 2)) q.val) (coord (B (ix3 b k 1)) (B (ix3 b k 3)) p.val) *
    (share (D b) k : EReal)

/-- The picture depends on the network, the table and the boxes alone. -/
theorem scene_congr {N N' : Net} {Z Z' : (⟨3, ![4, 36, 64]⟩ : Shape).Idx → EReal} {B B' : (⟨3, ![4, 71, 4]⟩ : Shape).Idx → EReal}
    (at_ : Fin 71 → Fin 36) (D : Fin 4 → Fin 71 → ℝ) (hN : N = N') (hZ : Z = Z') (hB : B = B') : scene N Z B at_ D = scene N' Z' B' at_ D := by
  rw [hN, hZ, hB]

/-- A resampling as two sums against triangle functions, for a patch of logistic values. -/
theorem resampled (g : Fin 64 → Fin 64 → EReal) (x y : EReal) (w : ℝ) :
    ∑ s : Fin 64, (∑ r : Fin 64, tri y (FloatOps.sitofp (F := Ideal) .f32 (BitVec.ofNat 32 r.val)) * (w : EReal) * Ideal.logistic (g r s)) *
        tri x (FloatOps.sitofp (F := Ideal) .f32 (BitVec.ofNat 32 s.val))
      = sampled (fun r s => Ideal.logistic (g r s)) x y * (w : EReal) := by
  choose h hh using fun r s => logistic_coe (g r s)
  simp only [hh]
  exact sampled_eq h x y w

end Cert.Spec
-- ==== Proof.KernelIdeal.Picture.lean ====
/- The sampling body's value as the picture. -/
module

public import proofs.«01_k».proof.Proof.KernelIdeal.SampleValue
public import proofs.«01_k».proof.Proof.Scene

@[expose] public section

set_option maxRecDepth 16384

noncomputable section

namespace Cert.KernelIdeal.Stage

open Idealize.ShloMosaic Idealize.ShloMosaic.TcCoe Idealize.SL.Sem Cert.KernelIdeal.Gen Cert.Spec

section
variable (d : Fin 72 → EReal) (D : Fin 71 → ℝ) (hd : ∀ k : Fin 71, d k.castSucc = (D k : EReal)) (hl : d (Fin.last 71) = absent)
include hd hl

/-- The largest of finite depths is finite. -/
theorem bodyMax_coe : ∃ M : ℝ, bodyMax d = M := by
  refine greatest_coe _ _ ⟨(0, 0), Finset.mem_univ _⟩ fun x _ => ?_
  induction x.1 using Fin.lastCases with
  | last => exact ⟨-1000, hl.trans absent_coe⟩
  | cast k => exact ⟨D k, hd k⟩

/-- The exponential of a box is that of its depth less the largest one; -/
theorem bodyExp_box (M : ℝ) (hM : bodyMax d = M) (k : Fin 71) : bodyExp d k.castSucc = Ideal.exp ((D k : EReal) - M) := by
  unfold bodyExp
  rw [if_pos (show (k.castSucc).val < 71 from k.isLt), hM, hd]

omit hd hl in
/-- the padding box's is zero, -/
theorem bodyExp_pad : bodyExp d (Fin.last 71) = 0 := if_neg (by decide)

/-- so that the sum runs over the true boxes. -/
theorem bodyExp_sum (M : ℝ) (hM : bodyMax d = M) : ∑ l, bodyExp d l = ∑ l : Fin 71, Ideal.exp ((D l : EReal) - M) := by
  rw [Fin.sum_univ_castSucc, bodyExp_pad, add_zero]
  exact Finset.sum_congr rfl fun k _ => bodyExp_box d D hd hl M hM k

/-- A box's weight is its share, -/
theorem bodyWeight_box (k : Fin 71) : bodyWeight d k.castSucc = (share D k : EReal) := by
  obtain ⟨M, hM⟩ := bodyMax_coe d D hd hl
  unfold bodyWeight
  rw [bodyExp_sum d D hd hl M hM, bodyExp_box d D hd hl M hM, softmax_eq]

/-- and the padding box weighs nothing. -/
theorem bodyWeight_pad : bodyWeight d (Fin.last 71) = ((0 : ℝ) : EReal) := by
  obtain ⟨M, hM⟩ := bodyMax_coe d D hd hl
  unfold bodyWeight
  rw [bodyExp_sum d D hd hl M hM, bodyExp_pad, softmax_zero D M 0, EReal.coe_zero]
end

/-- The word of a table row names that row alone. -/
theorem word_names : ∀ r k : Fin 36, BitVec.ofNat 32 r.val = BitVec.ofNat 32 k.val ↔ r = k := by decide +kernel

/-- What the body computes from an image's blocks is the picture, where the blocks hold the image's boxes. -/
theorem bodyValue_scene (x0 : Vec Ideal S1x1x72 .i32) (x1 : Vec Ideal S1x72x64x192 .f32) (x2 : Vec Ideal S1x72x4 .f32) (x3 : Vec Ideal S1x36x1 .f32)
    (x4 : Vec Ideal S1x72x1 .f32) (N : Net) (Z : S4x36x64.Idx → EReal) (B : S4x71x4.Idx → EReal) (P : S4x71x1.Idx → EReal) (T : S4x36x1.Idx → EReal)
    (at_ : Fin 71 → Fin 36) (D : Fin 4 → Fin 71 → ℝ) (hD : ∀ b k, depth P T at_ b k = (D b k : EReal)) (b : Fin 4) (ch : Fin 3) (p q : Fin 96)
    (h0 : ∀ k : Fin 71, x0 (ix3 0 0 k.castSucc) = BitVec.ofNat 32 (at_ k).val)
    (h1 : ∀ (k : Fin 71) (r s : Fin 64) (j : Fin 192), j.val = 64 * ch.val + s.val →
      x1 (ix4 0 k.castSucc r j) = N.logit (fun c => Z (ix3 b (at_ k) c)) r.val s.val ch)
    (h2 : ∀ (k : Fin 71) (j : Fin 4), x2 (ix3 0 k.castSucc j) = B (ix3 b k j))
    (h3 : ∀ r : Fin 36, x3 (ix3 0 r 0) = T (ix3 b r 0))
    (h4 : ∀ k : Fin 71, x4 (ix3 0 k.castSucc 0) = P (ix3 b k 0)) :
    bodyValue x0 x1 x2 x3 x4 ch p q = scene N Z B at_ D b ch p q := by
  have hd : ∀ k : Fin 71, bodyDepth x0 x3 x4 k.castSucc = (D b k : EReal) := fun k => by
    rw [← hD]
    unfold bodyDepth depth
    rw [if_pos (show (k.castSucc).val < 71 from k.isLt), h4, h0, sum_one_hot_mul (fun r => x3 (ix3 0 r 0)) _ (at_ k) (fun r => word_names r (at_ k)), h3]
  have hl : bodyDepth x0 x3 x4 (Fin.last 71) = absent := if_neg (by decide)
  unfold bodyValue scene
  rw [Fin.sum_univ_castSucc]
  simp only [bodyWeight_pad _ _ hd hl, bodyWeight_box _ _ hd hl, resampled, EReal.coe_zero, mul_zero, zero_mul, Finset.sum_const_zero, add_zero]
  refine Finset.sum_congr rfl fun k _ => ?_
  simp only [h2]
  refine congrArg (fun g => sampled g _ _ * _) (funext fun r => funext fun s => ?_)
  unfold patch
  exact congrArg Ideal.logistic (h1 k r s _ rfl)

end Cert.KernelIdeal.Stage
-- ==== Proof.KernelIdeal.Result.lean ====
/- The kernel's result from its arguments: the picture. -/
module

public import proofs.«01_k».proof.Proof.KernelIdeal.Prologue
public import proofs.«01_k».proof.Proof.KernelIdeal.Picture

@[expose] public section

set_option maxRecDepth 16384

noncomputable section

namespace Cert.KernelIdeal.Stage

open Idealize.ShloMosaic Idealize.ShloMosaic.TcCoe Idealize.SL.Sem Cert.KernelIdeal.Gen Cert.Spec

variable (m : (ℓ : Loc nD τ sig) → Buf (Elt Ideal) ℓ) (ρ : Dev nD → PrngReg) (c : Dev nD)

/-- The decoder's weights among the arguments. -/
def argNet : Net :=
  ⟨weights (m ((c : Thread nD τ).loc main_arg5) : FVec Ideal S64x128x2x2 .f32), bias (m ((c : Thread nD τ).loc main_arg6) : FVec Ideal S128 .f32),
   weights (m ((c : Thread nD τ).loc main_arg7) : FVec Ideal S128x128x2x2 .f32), bias (m ((c : Thread nD τ).loc main_arg8) : FVec Ideal S128 .f32),
   weights (m ((c : Thread nD τ).loc main_arg9) : FVec Ideal S128x64x2x2 .f32), bias (m ((c : Thread nD τ).loc main_arg10) : FVec Ideal S64 .f32),
   weights (m ((c : Thread nD τ).loc main_arg11) : FVec Ideal S64x64x2x2 .f32), bias (m ((c : Thread nD τ).loc main_arg12) : FVec Ideal S64 .f32),
   weights (m ((c : Thread nD τ).loc main_arg13) : FVec Ideal S64x32x2x2 .f32), bias (m ((c : Thread nD τ).loc main_arg14) : FVec Ideal S32 .f32),
   weights (m ((c : Thread nD τ).loc main_arg15) : FVec Ideal S32x3x2x2 .f32), bias (m ((c : Thread nD τ).loc main_arg16) : FVec Ideal S3 .f32)⟩

/-- Weights that agree layer by layer are the same. -/
theorem net_same {N N' : Net} (h1 : N.W1 = N'.W1) (g1 : N.b1 = N'.b1) (h2 : N.W2 = N'.W2) (g2 : N.b2 = N'.b2) (h3 : N.W3 = N'.W3) (g3 : N.b3 = N'.b3)
    (h4 : N.W4 = N'.W4) (g4 : N.b4 = N'.b4) (h5 : N.W5 = N'.W5) (g5 : N.b5 = N'.b5) (h6 : N.W6 = N'.W6) (g6 : N.b6 = N'.b6) : N = N' := by
  cases N
  cases N'
  cases h1; cases g1; cases h2; cases g2; cases h3; cases g3; cases h4; cases g4; cases h5; cases g5; cases h6; cases g6
  rfl

/-! The first call finds those weights, packed. -/
theorem found_weights1 : packed (V11 m ρ c main_v38 : FVec Ideal S64x512 .f32) = weights (m ((c : Thread nD τ).loc main_arg5) : FVec Ideal S64x128x2x2 .f32) :=
  weights1 (W10 m ρ c) _ (W10_args m ρ c main_arg5 (by decide))
/-- and its bias. -/
theorem found_bias1 : row (V11 m ρ c main_v21 : FVec Ideal S1x128 .f32) = bias (m ((c : Thread nD τ).loc main_arg6) : FVec Ideal S128 .f32) :=
  bias1 (W10 m ρ c) _ (W10_args m ρ c main_arg6 (by decide))
/-- The first call finds the second layer's weights; -/
theorem found_weights2 : packed (V11 m ρ c main_v40 : FVec Ideal S128x512 .f32) = weights (m ((c : Thread nD τ).loc main_arg7) : FVec Ideal S128x128x2x2 .f32) :=
  weights2 (W10 m ρ c) _ (W10_args m ρ c main_arg7 (by decide))
/-- and its bias. -/
theorem found_bias2 : row (V11 m ρ c main_v24 : FVec Ideal S1x128 .f32) = bias (m ((c : Thread nD τ).loc main_arg8) : FVec Ideal S128 .f32) :=
  bias2 (W10 m ρ c) _ (W10_args m ρ c main_arg8 (by decide))
/-- The first call finds the third layer's weights; -/
theorem found_weights3 : stacked (V11 m ρ c main_v26 : FVec Ideal S4x128x64 .f32) = weights (m ((c : Thread nD τ).loc main_arg9) : FVec Ideal S128x64x2x2 .f32) :=
  weights3 (W10 m ρ c) _ (W10_args m ρ c main_arg9 (by decide))
/-- and its bias. -/
theorem found_bias3 : row (V11 m ρ c main_v27 : FVec Ideal S1x64 .f32) = bias (m ((c : Thread nD τ).loc main_arg10) : FVec Ideal S64 .f32) :=
  bias3 (W10 m ρ c) _ (W10_args m ρ c main_arg10 (by decide))
/-- The first call finds the fourth layer's weights; -/
theorem found_weights4 : stacked (V11 m ρ c main_v29 : FVec Ideal S4x64x64 .f32) = weights (m ((c : Thread nD τ).loc main_arg11) : FVec Ideal S64x64x2x2 .f32) :=
  weights4 (W10 m ρ c) _ (W10_args m ρ c main_arg11 (by decide))
/-- and its bias. -/
theorem found_bias4 : row (V11 m ρ c main_v30 : FVec Ideal S1x64 .f32) = bias (m ((c : Thread nD τ).loc main_arg12) : FVec Ideal S64 .f32) :=
  bias4 (W10 m ρ c) _ (W10_args m ρ c main_arg12 (by decide))
/-- The first call finds the fifth layer's weights; -/
theorem found_weights5 : stacked (V11 m ρ c main_v32 : FVec Ideal S4x64x32 .f32) = weights (m ((c : Thread nD τ).loc main_arg13) : FVec Ideal S64x32x2x2 .f32) :=
  weights5 (W10 m ρ c) _ (W10_args m ρ c main_arg13 (by decide))
/-- and its bias. -/
theorem found_bias5 : row (V11 m ρ c main_v33 : FVec Ideal S1x32 .f32) = bias (m ((c : Thread nD τ).loc main_arg14) : FVec Ideal S32 .f32) :=
  bias5 (W10 m ρ c) _ (W10_args m ρ c main_arg14 (by decide))
/-- The first call finds the last layer's weights; -/
theorem found_weights6 : stacked (V11 m ρ c main_v35 : FVec Ideal S4x32x3 .f32) = weights (m ((c : Thread nD τ).loc main_arg15) : FVec Ideal S32x3x2x2 .f32) :=
  weights6 (W10 m ρ c) _ (W10_args m ρ c main_arg15 (by decide))
/-- and its bias. -/
theorem found_bias6 : row (V11 m ρ c main_v36 : FVec Ideal S1x3 .f32) = bias (m ((c : Thread nD τ).loc main_arg16) : FVec Ideal S3 .f32) :=
  bias6 (W10 m ρ c) _ (W10_args m ρ c main_arg16 (by decide))

/-- The network that the first call finds is the arguments' network. -/
theorem foundNet_eq : foundNet (V11 m ρ) c = argNet m c := by
  have h1 := found_weights1 m ρ c
  have h2 := found_weights2 m ρ c
  have h3 := found_weights3 m ρ c
  have h4 := found_weights4 m ρ c
  have h5 := found_weights5 m ρ c
  have h6 := found_weights6 m ρ c
  have g1 := found_bias1 m ρ c
  have g2 := found_bias2 m ρ c
  have g3 := found_bias3 m ρ c
  have g4 := found_bias4 m ρ c
  have g5 := found_bias5 m ρ c
  have g6 := found_bias6 m ρ c
  generalize V11 m ρ = V at h1 h2 h3 h4 h5 h6 g1 g2 g3 g4 g5 g6 ⊢
  exact net_same h1 g1 h2 g2 h3 g3 h4 g4 h5 g5 h6 g6

/-! ### Where the two calls' operands were written -/

/-- The padded indices are still there when they are looked up; -/
theorem found_v0 : W6 m ρ c (Proc.devRef .tc main_v0) = W2 m ρ c (Proc.devRef .tc main_v0) :=
  (W6_of m ρ c _ (by decide)).trans ((W5_of m ρ c _ (by decide)).trans ((W4_of m ρ c _ (by decide)).trans (W3_of m ρ c _ (by decide))))

/-- the second call finds the index list, -/
theorem found_v1 : V13 m ρ c main_v1 = W3 m ρ c (Proc.devRef .tc main_v1) :=
  (W13_of m ρ c _ (by decide)).trans ((W12_of m ρ c _ (by decide)).trans ((W11_of m ρ c _ (by decide)).trans ((W10_of m ρ c _ (by decide)).trans
    ((W9_of m ρ c _ (by decide)).trans ((W8_of m ρ c _ (by decide)).trans ((W7_of m ρ c _ (by decide)).trans ((W6_of m ρ c _ (by decide)).trans
      ((W5_of m ρ c _ (by decide)).trans (W4_of m ρ c _ (by decide))))))))))

/-- the padded box parameters, -/
theorem found_v17 : V13 m ρ c main_v17 = W8 m ρ c (Proc.devRef .tc main_v17) :=
  (W13_of m ρ c _ (by decide)).trans ((W12_of m ρ c _ (by decide)).trans ((W11_of m ρ c _ (by decide)).trans ((W10_of m ρ c _ (by decide)).trans
    (W9_of m ρ c _ (by decide)))))

/-- and the padded presences, as they were made. -/
theorem found_v18 : V13 m ρ c main_v18 = W10 m ρ c (Proc.devRef .tc main_v18) :=
  (W13_of m ρ c _ (by decide)).trans ((W12_of m ρ c _ (by decide)).trans (W11_of m ρ c _ (by decide)))

/-- The first call finds the row numbers, -/
theorem found_v15 : V11 m ρ c main_v15 = W7 m ρ c (Proc.devRef .tc main_v15) :=
  (W11_of m ρ c _ (by decide)).trans ((W10_of m ρ c _ (by decide)).trans ((W9_of m ρ c _ (by decide)).trans (W8_of m ρ c _ (by decide))))

/-- and the flattened latent table, as they were made. -/
theorem found_v16 : V11 m ρ c main_v16 = W7 m ρ c (Proc.devRef .tc main_v16) :=
  (W11_of m ρ c _ (by decide)).trans ((W10_of m ρ c _ (by decide)).trans ((W9_of m ρ c _ (by decide)).trans (W8_of m ρ c _ (by decide))))

/-! ### The first call's operands at an index -/

/-- The word of a table row of an image names that row alone. -/
theorem row_names (g : Fin 144) : ∀ r : Fin 144, BitVec.ofNat 32 r.val = BitVec.ofNat 32 g.val ↔ r = g := fun r => by
  have := r.isLt
  have := g.isLt
  rw [Fin.ext_iff, ← BitVec.toNat_inj, BitVec.toNat_ofNat, BitVec.toNat_ofNat]
  omega

/-- The sum of the two words of a row's number is the word of the sum. -/
theorem row_sum : ∀ (b : Fin 4) (r : Fin 36), IntOp.addi (BitVec.ofNat 32 (36 * b.val)) (BitVec.ofNat 32 r.val) = BitVec.ofNat 32 (36 * b.val + r.val) := by
  decide +kernel

section
variable (at_ : Fin 71 → Fin 36) (hi : ∀ k : Fin 71, (m ((c : Thread nD τ).loc main_arg4) : IVec S71 32) (ix1 k) = BitVec.ofNat 32 (at_ k).val)
include hi

/-- The padded index of a box is its row of the tables. -/
theorem found_index (k : Fin 71) : (W2 m ρ c (Proc.devRef .tc main_v0) : IVec S72 32) (ix1 k.castSucc) = BitVec.ofNat 32 (at_ k).val :=
  (padded_index (W1 m ρ c) k).trans ((congrFun (W1_args m ρ c main_arg4 (by decide)) (ix1 k)).trans (hi k))

/-- The row of the latent table that the first call finds named for a box. -/
theorem found_row (b : Fin 4) (k : Fin 71) (t : Fin 9) (l : Fin 32) (ht : 72 * b.val + k.val = 32 * t.val + l.val) :
    (V11 m ρ c main_v15 : IVec S9x1x32 32) (ix3 t 0 l) = BitVec.ofNat 32 (36 * b.val + (at_ k).val) := by
  have hk := k.isLt
  let n : Fin 288 := ⟨72 * b.val + k.val, by omega⟩
  have hq : n.val / 72 = b.val := by show (72 * b.val + k.val) / 72 = b.val; omega
  have hr : n.val % 72 = k.val := by show (72 * b.val + k.val) % 72 = k.val; omega
  have h2 : (W3 m ρ c (Proc.devRef .tc main_v2) : IVec S288 32) (ix1 n) = BitVec.ofNat 32 n.val := counted (W2 m ρ c) n
  have h3 := quotient (W3 m ρ c) n h2 (size_const (W2 m ρ c))
  have h5 := image_row (W4 m ρ c) n h3
  have h2' : (W5 m ρ c (Proc.devRef .tc main_v2) : IVec S288 32) (ix1 n) = BitVec.ofNat 32 n.val :=
    (congrFun ((W5_of m ρ c main_v2 (by decide)).trans (W4_of m ρ c main_v2 (by decide))) (ix1 n)).trans h2
  have h6 := rest (W5 m ρ c) n h2' (size_const' (W4 m ρ c))
  have h5' : (W6 m ρ c (Proc.devRef .tc main_v5) : IVec S288 32) (ix1 n) = BitVec.ofNat 32 (36 * (n.val / 72)) :=
    (congrFun (W6_of m ρ c main_v5 (by decide)) (ix1 n)).trans h5
  have h := flat_index (W6 m ρ c) t l n ht h6 h5' k.castSucc hr.symm
  rw [found_v0, found_index m ρ c at_ hi, hq, row_sum] at h
  exact (congrFun (found_v15 m ρ c) _).trans h

/-- So the latent vector of a box is its row of the table. -/
theorem found_latent (b : Fin 4) (k : Fin 71) (t : Fin 9) (l : Fin 32) (ht : 72 * b.val + k.val = 32 * t.val + l.val) (e : Fin 64) :
    latent (fun z => V11 m ρ c main_v15 (ix3 t 0 (z 2))) (V11 m ρ c main_v16) l e
      = (m ((c : Thread nD τ).loc main_arg0) : FVec Ideal S4x36x64 .f32) (ix3 b (at_ k) e) := by
  have hr := (at_ k).isLt
  have hx : (fun z : S1x1x32.Idx => (V11 m ρ c main_v15 : IVec S9x1x32 32) (ix3 t 0 (z 2))) (ix3 0 0 l) = BitVec.ofNat 32 (36 * b.val + (at_ k).val) :=
    found_row m ρ c at_ hi b k t l ht
  unfold latent
  rw [hx]
  simp only [bit_value]
  refine (sum_one_hot_mul (fun r => (V11 m ρ c main_v16 : FVec Ideal S144x64 .f32) (ix2 r e)) _ ⟨36 * b.val + (at_ k).val, by omega⟩ (row_names _)).trans ?_
  exact (congrFun (found_v16 m ρ c) _).trans ((table_row (W6 m ρ c) b (at_ k) _ rfl e).trans (congrFun (W6_args m ρ c main_arg0 (by decide)) _))

/-- What the second call finds for a box: its decoded patch before the logistic function. -/
theorem found_patch (b : Fin 4) (k : Fin 71) (r s : Fin 64) (ch : Fin 3) (j : Fin 192) (hj : j.val = 64 * ch.val + s.val) :
    (V13 m ρ c main_v42 : FVec Ideal S4x72x64x192 .f32) (ix4 b k.castSucc r j)
      = (argNet m c).logit (fun e => (m ((c : Thread nD τ).loc main_arg0) : FVec Ideal S4x36x64 .f32) (ix3 b (at_ k) e)) r.val s.val ch := by
  have hk := k.isLt
  let t : Fin 9 := ⟨(72 * b.val + k.val) / 32, by omega⟩
  let l : Fin 32 := ⟨(72 * b.val + k.val) % 32, by omega⟩
  have ht : 72 * b.val + k.val = 32 * t.val + l.val := by
    show 72 * b.val + k.val = 32 * ((72 * b.val + k.val) / 32) + (72 * b.val + k.val) % 32
    omega
  have h := regrouped (W12 m ρ c) b k.castSucc r j t l ch s ht hj
  refine h.trans ((congrFun ((W12_arr m ρ c 14).trans (decoded (V11 m ρ) c)) (ix5 t l r ch s)).trans ?_)
  show (foundNet (V11 m ρ) c).logit (latent (fun z => V11 m ρ c main_v15 (ix3 t 0 (z 2))) (V11 m ρ c main_v16) l) r.val s.val ch = _
  rw [foundNet_eq]
  exact congrArg (fun z => (argNet m c).logit z r.val s.val ch) (funext fun e => found_latent m ρ c at_ hi b k t l ht e)

/-- The kernel's result is the picture. -/
theorem result (D : Fin 4 → Fin 71 → ℝ)
    (hD : ∀ b k, depth (m ((c : Thread nD τ).loc main_arg2) : FVec Ideal S4x71x1 .f32) (m ((c : Thread nD τ).loc main_arg3) : FVec Ideal S4x36x1 .f32) at_ b k = (D b k : EReal)) :
    W14 m ρ c (Proc.devRef .tc main_v43) = fun y : S4x3x96x96.Idx =>
      scene (argNet m c) (m ((c : Thread nD τ).loc main_arg0) : FVec Ideal S4x36x64 .f32) (m ((c : Thread nD τ).loc main_arg1) : FVec Ideal S4x71x4 .f32) at_ D
        (y 0) (y 1) (y 2) (y 3) := by
  refine (W14_arr m ρ c 5).trans ((painted (V13 m ρ) c).trans (funext fun y => ?_))
  unfold paintedAt
  refine bodyValue_scene _ _ _ _ _ (argNet m c) _ _ _ _ at_ D hD (y 0) (y 1) (y 2) (y 3) ?_ ?_ ?_ ?_ ?_
  · exact fun k => (congrFun (found_v1 m ρ c) _).trans ((index_row (W2 m ρ c) k.castSucc).trans (found_index m ρ c at_ hi k))
  · exact fun k r s j hj => found_patch m ρ c at_ hi (y 0) k r s (y 1) j hj
  · exact fun k j => (congrFun (found_v17 m ρ c) _).trans ((padded_box (W7 m ρ c) (y 0) k j).trans (congrFun (W7_args m ρ c main_arg1 (by decide)) _))
  · exact fun r => congrFun (W13_args m ρ c main_arg3 (by decide)) _
  · exact fun k => (congrFun (found_v18 m ρ c) _).trans ((padded_presence (W9 m ρ c) (y 0) k).trans (congrFun (W9_args m ρ c main_arg2 (by decide)) _))
end

end Cert.KernelIdeal.Stage
-- ==== Proof.ReferenceIdeal.Gathers.lean ====
/- The reference's gathers read at an index: an element of the operand at the start indices' words, each clamped into its
   axis. -/
module

public import proofs.«01_k».proof.Proof.Gen.ReferenceIdeal.Run
public import Idealize.ShloMosaic.Lib.Pointwise

@[expose] public section

set_option maxRecDepth 16384

noncomputable section

namespace Cert.ReferenceIdeal.Read

open Idealize.ShloMosaic Idealize.ShloMosaic.TcCoe Idealize.SL.Sem Cert.ReferenceIdeal

variable {α : Type} [Facts]

/-- Taking rows of the latent table: the row that the word names. -/
theorem take_latent (x : S4x36x64.Idx → α) (st : IVec S71x1 32) (b : Fin 4) (k : Fin 71) (c : Fin 64) :
    Host.gather gather_S4x36x64_S71x1_S4x71x64_02_1_n_n_1_1_4164 x st (ix3 b k c)
      = x (ix3 b ⟨min (st (ix2 k 0)).toInt.toNat 35, by omega⟩ c) := by
  unfold Host.gather
  congr 1
  funext a
  refine Fin.ext ?_
  show GatherDims.start _ (ix3 b k c) st a + GatherDims.batchCoord _ (ix3 b k c) a + GatherDims.offCoord _ (ix3 b k c) a = _
  have hsi : GatherDims.siIdx gather_S4x36x64_S71x1_S4x71x64_02_1_n_n_1_1_4164 (ix3 b k c) ⟨0, Nat.one_pos⟩ = ix2 k 0 := by
    funext q; refine Fin.ext ?_
    match q with
    | ⟨0, _⟩ => rfl
    | ⟨1, _⟩ => rfl
  match a with
  | ⟨0, _⟩ => exact Nat.zero_add _
  | ⟨1, _⟩ => exact congrArg (fun z => min (st z).toInt.toNat 35) hsi
  | ⟨2, _⟩ => exact Nat.zero_add _

/-- Taking rows of the depth table. -/
theorem take_depth (x : S4x36x1.Idx → α) (st : IVec S71x1 32) (b : Fin 4) (k : Fin 71) :
    Host.gather gather_S4x36x1_S71x1_S4x71x1_02_1_n_n_1_1_411 x st (ix3 b k 0)
      = x (ix3 b ⟨min (st (ix2 k 0)).toInt.toNat 35, by omega⟩ 0) := by
  unfold Host.gather
  congr 1
  funext a
  refine Fin.ext ?_
  show GatherDims.start _ (ix3 b k 0) st a + GatherDims.batchCoord _ (ix3 b k 0) a + GatherDims.offCoord _ (ix3 b k 0) a = _
  have hsi : GatherDims.siIdx gather_S4x36x1_S71x1_S4x71x1_02_1_n_n_1_1_411 (ix3 b k 0) ⟨0, Nat.one_pos⟩ = ix2 k 0 := by
    funext q; refine Fin.ext ?_
    match q with
    | ⟨0, _⟩ => rfl
    | ⟨1, _⟩ => rfl
  match a with
  | ⟨0, _⟩ => exact Nat.zero_add _
  | ⟨1, _⟩ => exact congrArg (fun z => min (st z).toInt.toNat 35) hsi
  | ⟨2, _⟩ => rfl

/-- Taking pixels of the patches: box, row and column by the three words, the channel kept. -/
theorem take_pixel (x : S284x3x64x64.Idx → α) (st : IVec S284x96x96x3 32) (n : Fin 284) (i j : Fin 96) (ch : Fin 3) :
    Host.gather gather_S284x3x64x64_S284x96x96x3_S284x96x96x3_3_023_n_n_023_3_1311 x st (ix4 n i j ch)
      = x (ix4 ⟨min (st (ix4 n i j 0)).toInt.toNat 283, by omega⟩ ch ⟨min (st (ix4 n i j 1)).toInt.toNat 63, by omega⟩
          ⟨min (st (ix4 n i j 2)).toInt.toNat 63, by omega⟩) := by
  unfold Host.gather
  congr 1
  funext a
  refine Fin.ext ?_
  show GatherDims.start _ (ix4 n i j ch) st a + GatherDims.batchCoord _ (ix4 n i j ch) a + GatherDims.offCoord _ (ix4 n i j ch) a = _
  have hsi : ∀ c : Fin 3, GatherDims.siIdx gather_S284x3x64x64_S284x96x96x3_S284x96x96x3_3_023_n_n_023_3_1311 (ix4 n i j ch) c = ix4 n i j c := by
    intro c; funext q; refine Fin.ext ?_
    match q with
    | ⟨0, _⟩ => rfl
    | ⟨1, _⟩ => rfl
    | ⟨2, _⟩ => rfl
    | ⟨3, _⟩ => rfl
  match a with
  | ⟨0, _⟩ => exact congrArg (fun z => min (st z).toInt.toNat 283) (hsi 0)
  | ⟨1, _⟩ => exact Nat.zero_add _
  | ⟨2, _⟩ => exact congrArg (fun z => min (st z).toInt.toNat 63) (hsi 1)
  | ⟨3, _⟩ => exact congrArg (fun z => min (st z).toInt.toNat 63) (hsi 2)

end Cert.ReferenceIdeal.Read
-- ==== Proof.ReferenceIdeal.Decoder.lean ====
/- The reference's decoder read at a pixel of a box's patch. -/
module

public import proofs.«01_k».proof.Proof.ReferenceIdeal.Gathers
public import proofs.«01_k».proof.Proof.Spec
public import Idealize.ShloMosaic.Lib.Pipeline.ValueKit
public import Idealize.ShloMosaic.Lib.Tactic.CleanTypes

@[expose] public section

set_option maxRecDepth 16384

noncomputable section

namespace Cert.ReferenceIdeal.Read

open Idealize.ShloMosaic Idealize.ShloMosaic.TcCoe Idealize.SL.Sem Cert.ReferenceIdeal Cert.ReferenceIdeal.Value Cert.Spec

variable [Facts]
open Facts₀ Facts

/-! The layers as the reference states them: a product over the input channels with the squares' rows and columns put in
    place, and a bias. -/

/-- Layer 1 of the reference's decoder. -/
def stage1 (W : FVec Ideal S64x128x2x2 .f32) (b : FVec Ideal S128 .f32) (X : FVec Ideal S284x64x1x1 .f32) : FVec Ideal S284x128x2x2 .f32 :=
  maximumf (addf (shapeCast _ (transpose S284x128x1x2x1x2 [3, 0, 4, 1, 5, 2] (Host.dotGeneral dot_S64x128x2x2_S284x64x1x1_S128x2x2x284x1x1_0_1_123_023_n_n none W X) transposes_S128x2x2x284x1x1_S284x128x1x2x1x2_3_0_4_1_5_2) shapeCasts_S284x128x1x2x1x2_S284x128x2x2) (broadcastInDim S284x128x2x2 ![0, 1, 2, 3] bcast_S1x128x1x1_S284x128x2x2_0_1_2_3 (broadcastInDim S1x128x1x1 ![1] bcast_S128_S1x128x1x1_1 b))) (broadcastInDim S284x128x2x2 ![] bcast_S_S284x128x2x2 (constant S_ .f32 0x00000000#32))

/-- Layer 1 at an index is the plain layer. -/
theorem stage1_apply (W : FVec Ideal S64x128x2x2 .f32) (b : FVec Ideal S128 .f32) (X : FVec Ideal S284x64x1x1 .f32) (Y : Fin 284 → ℕ → ℕ → Fin 64 → EReal)
    (hX : ∀ n c (i j : Fin 1), X (ix4 n c i j) = Y n i.val j.val c) (n : Fin 284) (o : Fin 128) (i j : Fin 2) :
    stage1 W b X (ix4 n o i j) = layer (weights W) (bias b) (Y n) i.val j.val o := by
  unfold stage1
  pointwise []
  have e := deconv_swap (Y n) W b i.val j.val o (fun c => X (ix4 n c 0 0)) fun c => by
    rw [hX, show i.val / 2 = 0 by omega, show j.val / 2 = 0 by omega]; rfl
  rw [show par i.val = i from Fin.ext (by show i.val % 2 = i.val; omega), show par j.val = j from Fin.ext (by show j.val % 2 = j.val; omega)] at e
  exact congrArg (max · 0) e

/-- Layer 2 of the reference's decoder. -/
def stage2 (W : FVec Ideal S128x128x2x2 .f32) (b : FVec Ideal S128 .f32) (X : FVec Ideal S284x128x2x2 .f32) : FVec Ideal S284x128x4x4 .f32 :=
  maximumf (addf (shapeCast _ (transpose S284x128x2x2x2x2 [3, 0, 4, 1, 5, 2] (Host.dotGeneral dot_S128x128x2x2_S284x128x2x2_S128x2x2x284x2x2_0_1_123_023_n_n none W X) transposes_S128x2x2x284x2x2_S284x128x2x2x2x2_3_0_4_1_5_2) shapeCasts_S284x128x2x2x2x2_S284x128x4x4) (broadcastInDim S284x128x4x4 ![0, 1, 2, 3] bcast_S1x128x1x1_S284x128x4x4_0_1_2_3 (broadcastInDim S1x128x1x1 ![1] bcast_S128_S1x128x1x1_1 b))) (broadcastInDim S284x128x4x4 ![] bcast_S_S284x128x4x4 (constant S_ .f32 0x00000000#32))

/-- Layer 2 at an index is the plain layer. -/
theorem stage2_apply (W : FVec Ideal S128x128x2x2 .f32) (b : FVec Ideal S128 .f32) (X : FVec Ideal S284x128x2x2 .f32) (Y : Fin 284 → ℕ → ℕ → Fin 128 → EReal)
    (hX : ∀ n c (i j : Fin 2), X (ix4 n c i j) = Y n i.val j.val c) (n : Fin 284) (o : Fin 128) (i j : Fin 4) :
    stage2 W b X (ix4 n o i j) = layer (weights W) (bias b) (Y n) i.val j.val o := by
  unfold stage2
  pointwise []
  exact congrArg (max · 0) (deconv_swap (Y n) W b i.val j.val o _ fun c => hX n c ⟨i.val / 2, by omega⟩ ⟨j.val / 2, by omega⟩)

/-- Layer 3 of the reference's decoder. -/
def stage3 (W : FVec Ideal S128x64x2x2 .f32) (b : FVec Ideal S64 .f32) (X : FVec Ideal S284x128x4x4 .f32) : FVec Ideal S284x64x8x8 .f32 :=
  maximumf (addf (shapeCast _ (transpose S284x64x4x2x4x2 [3, 0, 4, 1, 5, 2] (Host.dotGeneral dot_S128x64x2x2_S284x128x4x4_S64x2x2x284x4x4_0_1_123_023_n_n none W X) transposes_S64x2x2x284x4x4_S284x64x4x2x4x2_3_0_4_1_5_2) shapeCasts_S284x64x4x2x4x2_S284x64x8x8) (broadcastInDim S284x64x8x8 ![0, 1, 2, 3] bcast_S1x64x1x1_S284x64x8x8_0_1_2_3 (broadcastInDim S1x64x1x1 ![1] bcast_S64_S1x64x1x1_1 b))) (broadcastInDim S284x64x8x8 ![] bcast_S_S284x64x8x8 (constant S_ .f32 0x00000000#32))

/-- Layer 3 at an index is the plain layer. -/
theorem stage3_apply (W : FVec Ideal S128x64x2x2 .f32) (b : FVec Ideal S64 .f32) (X : FVec Ideal S284x128x4x4 .f32) (Y : Fin 284 → ℕ → ℕ → Fin 128 → EReal)
    (hX : ∀ n c (i j : Fin 4), X (ix4 n c i j) = Y n i.val j.val c) (n : Fin 284) (o : Fin 64) (i j : Fin 8) :
    stage3 W b X (ix4 n o i j) = layer (weights W) (bias b) (Y n) i.val j.val o := by
  unfold stage3
  pointwise []
  exact congrArg (max · 0) (deconv_swap (Y n) W b i.val j.val o _ fun c => hX n c ⟨i.val / 2, by omega⟩ ⟨j.val / 2, by omega⟩)

/-- Layer 4 of the reference's decoder. -/
def stage4 (W : FVec Ideal S64x64x2x2 .f32) (b : FVec Ideal S64 .f32) (X : FVec Ideal S284x64x8x8 .f32) : FVec Ideal S284x64x16x16 .f32 :=
  maximumf (addf (shapeCast _ (transpose S284x64x8x2x8x2 [3, 0, 4, 1, 5, 2] (Host.dotGeneral dot_S64x64x2x2_S284x64x8x8_S64x2x2x284x8x8_0_1_123_023_n_n none W X) transposes_S64x2x2x284x8x8_S284x64x8x2x8x2_3_0_4_1_5_2) shapeCasts_S284x64x8x2x8x2_S284x64x16x16) (broadcastInDim S284x64x16x16 ![0, 1, 2, 3] bcast_S1x64x1x1_S284x64x16x16_0_1_2_3 (broadcastInDim S1x64x1x1 ![1] bcast_S64_S1x64x1x1_1 b))) (broadcastInDim S284x64x16x16 ![] bcast_S_S284x64x16x16 (constant S_ .f32 0x00000000#32))

/-- Layer 4 at an index is the plain layer. -/
theorem stage4_apply (W : FVec Ideal S64x64x2x2 .f32) (b : FVec Ideal S64 .f32) (X : FVec Ideal S284x64x8x8 .f32) (Y : Fin 284 → ℕ → ℕ → Fin 64 → EReal)
    (hX : ∀ n c (i j : Fin 8), X (ix4 n c i j) = Y n i.val j.val c) (n : Fin 284) (o : Fin 64) (i j : Fin 16) :
    stage4 W b X (ix4 n o i j) = layer (weights W) (bias b) (Y n) i.val j.val o := by
  unfold stage4
  pointwise []
  exact congrArg (max · 0) (deconv_swap (Y n) W b i.val j.val o _ fun c => hX n c ⟨i.val / 2, by omega⟩ ⟨j.val / 2, by omega⟩)

/-- Layer 5 of the reference's decoder. -/
def stage5 (W : FVec Ideal S64x32x2x2 .f32) (b : FVec Ideal S32 .f32) (X : FVec Ideal S284x64x16x16 .f32) : FVec Ideal S284x32x32x32 .f32 :=
  maximumf (addf (shapeCast _ (transpose S284x32x16x2x16x2 [3, 0, 4, 1, 5, 2] (Host.dotGeneral dot_S64x32x2x2_S284x64x16x16_S32x2x2x284x16x16_0_1_123_023_n_n none W X) transposes_S32x2x2x284x16x16_S284x32x16x2x16x2_3_0_4_1_5_2) shapeCasts_S284x32x16x2x16x2_S284x32x32x32) (broadcastInDim S284x32x32x32 ![0, 1, 2, 3] bcast_S1x32x1x1_S284x32x32x32_0_1_2_3 (broadcastInDim S1x32x1x1 ![1] bcast_S32_S1x32x1x1_1 b))) (broadcastInDim S284x32x32x32 ![] bcast_S_S284x32x32x32 (constant S_ .f32 0x00000000#32))

/-- Layer 5 at an index is the plain layer. -/
theorem stage5_apply (W : FVec Ideal S64x32x2x2 .f32) (b : FVec Ideal S32 .f32) (X : FVec Ideal S284x64x16x16 .f32) (Y : Fin 284 → ℕ → ℕ → Fin 64 → EReal)
    (hX : ∀ n c (i j : Fin 16), X (ix4 n c i j) = Y n i.val j.val c) (n : Fin 284) (o : Fin 32) (i j : Fin 32) :
    stage5 W b X (ix4 n o i j) = layer (weights W) (bias b) (Y n) i.val j.val o := by
  unfold stage5
  pointwise []
  exact congrArg (max · 0) (deconv_swap (Y n) W b i.val j.val o _ fun c => hX n c ⟨i.val / 2, by omega⟩ ⟨j.val / 2, by omega⟩)

/-- Layer 6 of the reference's decoder. -/
def stage6 (W : FVec Ideal S32x3x2x2 .f32) (b : FVec Ideal S3 .f32) (X : FVec Ideal S284x32x32x32 .f32) : FVec Ideal S284x3x64x64 .f32 :=
  addf (shapeCast _ (transpose S284x3x32x2x32x2 [3, 0, 4, 1, 5, 2] (Host.dotGeneral dot_S32x3x2x2_S284x32x32x32_S3x2x2x284x32x32_0_1_123_023_n_n none W X) transposes_S3x2x2x284x32x32_S284x3x32x2x32x2_3_0_4_1_5_2) shapeCasts_S284x3x32x2x32x2_S284x3x64x64) (broadcastInDim S284x3x64x64 ![0, 1, 2, 3] bcast_S1x3x1x1_S284x3x64x64_0_1_2_3 (broadcastInDim S1x3x1x1 ![1] bcast_S3_S1x3x1x1_1 b))

/-- Layer 6 at an index is the plain layer. -/
theorem stage6_apply (W : FVec Ideal S32x3x2x2 .f32) (b : FVec Ideal S3 .f32) (X : FVec Ideal S284x32x32x32 .f32) (Y : Fin 284 → ℕ → ℕ → Fin 32 → EReal)
    (hX : ∀ n c (i j : Fin 32), X (ix4 n c i j) = Y n i.val j.val c) (n : Fin 284) (o : Fin 3) (i j : Fin 64) :
    stage6 W b X (ix4 n o i j) = deconv (Y n) (weights W) (bias b) i.val j.val o := by
  unfold stage6
  pointwise []
  exact (deconv_swap (Y n) W b i.val j.val o _ fun c => hX n c ⟨i.val / 2, by omega⟩ ⟨j.val / 2, by omega⟩)

/-- The latent vectors that enter: rows of the table by the words, not-a-number where a word is out of range. -/
def entering (V0 : Valuation τ sig (Elt Ideal)) : FVec Ideal S284x64x1x1 .f32 :=
  shapeCast _ (shapeCast S284x64 (select (broadcastInDim S4x71x64 ![1] bcast_S71_S4x71x64_1 (Host.reduce IntOp.andi (andi (cmpi .sge (res_main_call0_v5 V0) (broadcastInDim S71x1 ![] bcast_S_S71x1 (constantI S_ 32 0#32))) (cmpi .sle (res_main_call0_v5 V0) (broadcastInDim S71x1 ![0, 1] bcast_S1x1_S71x1_0_1 (broadcastInDim S1x1 ![1] bcast_S1_S1x1_1 (constantI S1 32 35#32))))) (constantI S_ 1 1#1) reducesTo_S71x1_S71_d1 h_S_)) (Host.gather gather_S4x36x64_S71x1_S4x71x64_02_1_n_n_1_1_4164 (V0 (Proc.devRef .tc main_arg0)) (res_main_call0_v5 V0)) (broadcastInDim S4x71x64 ![] bcast_S_S4x71x64 (constant S_ .f32 0x7FC00000#32))) shapeCasts_S4x71x64_S284x64) shapeCasts_S284x64_S284x64x1x1

/-- The decoder is its six layers, with the logistic function's denominator. -/
theorem v48_stages (V0 : Valuation τ sig (Elt Ideal)) : res_main_v48 V0 =
    addf (broadcastInDim S284x3x64x64 ![] bcast_S_S284x3x64x64 (constant S_ .f32 0x3F800000#32)) (Host.exp (Host.negf
      (stage6 (V0 (Proc.devRef .tc main_arg15)) (V0 (Proc.devRef .tc main_arg16)) (stage5 (V0 (Proc.devRef .tc main_arg13)) (V0 (Proc.devRef .tc main_arg14))
        (stage4 (V0 (Proc.devRef .tc main_arg11)) (V0 (Proc.devRef .tc main_arg12)) (stage3 (V0 (Proc.devRef .tc main_arg9)) (V0 (Proc.devRef .tc main_arg10))
          (stage2 (V0 (Proc.devRef .tc main_arg7)) (V0 (Proc.devRef .tc main_arg8)) (stage1 (V0 (Proc.devRef .tc main_arg5)) (V0 (Proc.devRef .tc main_arg6)) (entering V0))))))))) := rfl

/-- The decoder's weights as the reference is given them. -/
def givenNet (V0 : Valuation τ sig (Elt Ideal)) : Net :=
  ⟨weights (V0 (Proc.devRef .tc main_arg5) : FVec Ideal S64x128x2x2 .f32), bias (V0 (Proc.devRef .tc main_arg6) : FVec Ideal S128 .f32),
   weights (V0 (Proc.devRef .tc main_arg7) : FVec Ideal S128x128x2x2 .f32), bias (V0 (Proc.devRef .tc main_arg8) : FVec Ideal S128 .f32),
   weights (V0 (Proc.devRef .tc main_arg9) : FVec Ideal S128x64x2x2 .f32), bias (V0 (Proc.devRef .tc main_arg10) : FVec Ideal S64 .f32),
   weights (V0 (Proc.devRef .tc main_arg11) : FVec Ideal S64x64x2x2 .f32), bias (V0 (Proc.devRef .tc main_arg12) : FVec Ideal S64 .f32),
   weights (V0 (Proc.devRef .tc main_arg13) : FVec Ideal S64x32x2x2 .f32), bias (V0 (Proc.devRef .tc main_arg14) : FVec Ideal S32 .f32),
   weights (V0 (Proc.devRef .tc main_arg15) : FVec Ideal S32x3x2x2 .f32), bias (V0 (Proc.devRef .tc main_arg16) : FVec Ideal S3 .f32)⟩

/-- A patch's pixel: the logistic function of the decoder's output. -/
theorem v50_apply (V0 : Valuation τ sig (Elt Ideal)) (n : Fin 284) (o : Fin 3) (i j : Fin 64) :
    (res_main_v50 V0 : FVec Ideal S284x3x64x64 .f32) (ix4 n o i j)
      = Ideal.logistic ((givenNet V0).logit (fun c => entering V0 (ix4 n c 0 0)) i.val j.val o) := by
  unfold res_main_v50
  rw [v48_stages]
  clean_types
  pointwise []
  rw [stage6_apply _ _ _ _ (stage5_apply _ _ _ _ (stage4_apply _ _ _ _ (stage3_apply _ _ _ _ (stage2_apply _ _ _ _ (stage1_apply _ _ _
    (fun n _ _ c => entering V0 (ix4 n c 0 0)) (fun n c i j => by rw [Subsingleton.elim i 0, Subsingleton.elim j 0]))))))]
  rfl

/-- An index of the table isn't negative, so that the lookup leaves it as it is; -/
theorem word_kept : ∀ r : Fin 36, Scalar.select (IntOp.cmpi .slt (BitVec.ofNat 32 r.val) 0#32) (IntOp.addi (BitVec.ofNat 32 r.val) 36#32) (BitVec.ofNat 32 r.val)
    = BitVec.ofNat 32 r.val := by decide +kernel

/-- it is found to lie in the table, -/
theorem word_valid : ∀ r : Fin 36, IntOp.andi (IntOp.andi (IntOp.cmpi .sge (BitVec.ofNat 32 r.val) 0#32) (IntOp.cmpi .sle (BitVec.ofNat 32 r.val) 35#32)) 1#1
    = 1#1 := by decide +kernel

/-- and the row read is the index. -/
theorem word_row : ∀ r : Fin 36, min (BitVec.ofNat 32 r.val).toInt.toNat 35 = r.val := by decide +kernel

/-- The bit of a fold over one word in the table's range. -/
theorem fold_valid (v : Fin 1 → BitVec 32) (r : Fin 36) (hv : v 0 = BitVec.ofNat 32 r.val) :
    Finset.fold IntOp.andi (1#1) (fun x => IntOp.andi (IntOp.cmpi .sge (v x) 0#32) (IntOp.cmpi .sle (v x) 35#32)) Finset.univ = 1#1 := by
  rw [Finset.univ_unique, Finset.fold_singleton]
  show IntOp.andi (IntOp.andi (IntOp.cmpi .sge (v 0) 0#32) (IntOp.cmpi .sle (v 0) 35#32)) 1#1 = 1#1
  rw [hv]
  exact word_valid r

section
variable (V0 : Valuation τ sig (Elt Ideal)) (k : Fin 71) (r : Fin 36) (hr : (V0 (Proc.devRef .tc main_arg4) : IVec S71 32) (ix1 k) = BitVec.ofNat 32 r.val)
include hr

/-- A word in the table's range is taken as it is. -/
theorem word0 : (res_main_call0_v5 V0 : IVec S71x1 32) (ix2 k 0) = BitVec.ofNat 32 r.val := by
  unfold res_main_call0_v5
  clean_types
  pointwise [hr]
  exact word_kept r

/-- What enters the reference's decoder for box n: the row of the latent table that its index names. -/
theorem entering_apply (b : Fin 4) (n : Fin 284) (hn : n.val = 71 * b.val + k.val) (c : Fin 64) :
    entering V0 (ix4 n c 0 0) = (V0 (Proc.devRef .tc main_arg0) : FVec Ideal S4x36x64 .f32) (ix3 b r c) := by
  unfold entering
  have e0 : (⟨n.val / 71, by omega⟩ : Fin 4) = b := Fin.ext (by show n.val / 71 = b.val; omega)
  have e1 : (⟨n.val % 71, by omega⟩ : Fin 71) = k := Fin.ext (by show n.val % 71 = k.val; omega)
  generalize hG : Host.gather gather_S4x36x64_S71x1_S4x71x64_02_1_n_n_1_1_4164 (V0 (Proc.devRef .tc main_arg0)) (res_main_call0_v5 V0) = G
  clean_types
  pointwise []
  rw [e0, e1, fold_valid (fun x => (res_main_call0_v5 V0 : IVec S71x1 32) (ix2 k x)) r (word0 V0 k r hr), ← hG, take_latent]
  refine (if_pos rfl).trans ?_
  refine congrArg (fun z => (V0 (Proc.devRef .tc main_arg0) : FVec Ideal S4x36x64 .f32) (ix3 b z c)) (Fin.ext ?_)
  show min ((res_main_call0_v5 V0 : IVec S71x1 32) (ix2 k 0)).toInt.toNat 35 = r.val
  rw [word0 V0 k r hr]
  exact word_row r
end

end Cert.ReferenceIdeal.Read
-- ==== Proof.ReferenceIdeal.Corners.lean ====
/- The reference's spatial transformer read at a pixel: the bilinear interpolation of a box's patch. -/
module

public import proofs.«01_k».proof.Proof.ReferenceIdeal.Gathers
public import proofs.«01_k».proof.Proof.Sampling
public import Idealize.ShloMosaic.Lib.Pipeline.ValueKit
public import Idealize.ShloMosaic.Lib.Tactic.CleanTypes

@[expose] public section

set_option maxRecDepth 16384

noncomputable section

namespace Cert.ReferenceIdeal.Read

open Idealize.ShloMosaic Idealize.ShloMosaic.TcCoe Idealize.SL.Sem Cert.ReferenceIdeal Cert.ReferenceIdeal.Value Cert.Spec

variable [Facts]
open Facts₀ Facts

/-- The words of a coordinate array: clamped into the patch and converted, -/
def words (X : FVec Ideal S284x96x96 .f32) : IVec S284x96x96 32 :=
  fptosi 32 (minimumf (broadcastInDim S284x96x96 ![] bcast_S_S284x96x96 (sitofp .f32 (constantI S_ 32 63#32))) (maximumf (broadcastInDim S284x96x96 ![] bcast_S_S284x96x96 (sitofp .f32 (constantI S_ 32 0#32))) X))

/-- a negative word wrapped, with an axis for the three parts of a start index. -/
def part (v : IVec S284x96x96 32) : IVec S284x96x96x1 32 :=
  broadcastInDim S284x96x96x1 ![0, 1, 2] bcast_S284x96x96_S284x96x96x1_0_1_2 (select (cmpi .slt v (broadcastInDim S284x96x96 ![] bcast_S_S284x96x96 (constantI S_ 32 0#32))) (addi v (broadcastInDim S284x96x96 ![] bcast_S_S284x96x96 (constantI S_ 32 64#32))) v)

/-- The box's own number as a start index's first part. -/
def boxes : IVec S284x96x96x1 32 :=
  broadcastInDim S284x96x96x1 ![0, 1, 2] bcast_S284x96x96_S284x96x96x1_0_1_2 (broadcastInDim S284x96x96 ![0, 1, 2] bcast_S284x1x1_S284x96x96_0_1_2 (select (cmpi .slt (broadcastInDim S284x1x1 ![0] bcast_S284_S284x1x1_0 (iotaInDim S284 32 0)) (broadcastInDim S284x1x1 ![] bcast_S_S284x1x1 (constantI S_ 32 0#32))) (addi (broadcastInDim S284x1x1 ![0] bcast_S284_S284x1x1_0 (iotaInDim S284 32 0)) (broadcastInDim S284x1x1 ![] bcast_S_S284x1x1 (constantI S_ 32 284#32))) (broadcastInDim S284x1x1 ![0] bcast_S284_S284x1x1_0 (iotaInDim S284 32 0))))

/-- The start indices: box, row, column. -/
def starts (a b c : IVec S284x96x96x1 32) : IVec S284x96x96x3 32 :=
  concatenate S284x96x96x3 3 [⟨S284x96x96x1, a⟩, ⟨S284x96x96x1, b⟩, ⟨S284x96x96x1, c⟩] concatenates_S284x96x96x1_S284x96x96x1_S284x96x96x1_S284x96x96x3_d3

/-- Whether a pixel lies in the patch. -/
def inside (X Y : FVec Ideal S284x96x96 .f32) : IVec S284x96x96 1 :=
  andi (andi (andi (cmpf .oge X (broadcastInDim S284x96x96 ![] bcast_S_S284x96x96 (constant S_ .f32 0x00000000#32))) (cmpf .ole X (broadcastInDim S284x96x96 ![] bcast_S_S284x96x96 (constant S_ .f32 0x427C0000#32)))) (cmpf .oge Y (broadcastInDim S284x96x96 ![] bcast_S_S284x96x96 (constant S_ .f32 0x00000000#32)))) (cmpf .ole Y (broadcastInDim S284x96x96 ![] bcast_S_S284x96x96 (constant S_ .f32 0x427C0000#32)))

/-- One of the four nearest pixels with its weight. -/
def quarter (img : FVec Ideal S284x3x64x64 .f32) (X Y W : FVec Ideal S284x96x96 .f32) : FVec Ideal S284x96x96x3 .f32 :=
  mulf (select (broadcastInDim S284x96x96x3 ![0, 1, 2, 3] bcast_S284x96x96x1_S284x96x96x3_0_1_2_3 (broadcastInDim S284x96x96x1 ![0, 1, 2] bcast_S284x96x96_S284x96x96x1_0_1_2 (inside X Y)))
      (Host.gather gather_S284x3x64x64_S284x96x96x3_S284x96x96x3_3_023_n_n_023_3_1311 img (starts boxes (part (words Y)) (part (words X))))
      (broadcastInDim S284x96x96x3 ![] bcast_S_S284x96x96x3 (id (constant S_ .f32 0x00000000#32))))
    (broadcastInDim S284x96x96x3 ![0, 1, 2, 3] bcast_S284x96x96x1_S284x96x96x3_0_1_2_3 (broadcastInDim S284x96x96x1 ![0, 1, 2] bcast_S284x96x96_S284x96x96x1_0_1_2 W))

/-- The lookup's word for a pixel coordinate. -/
theorem part_apply (X : FVec Ideal S284x96x96 .f32) (n : Fin 284) (i j : Fin 96) :
    part (words X) (ix4 n i j 0) = wrapped (pixelWord (X (ix3 n i j))) := by
  unfold part words
  pointwise []
  rfl

/-- The lookup's word for the box is the box. -/
theorem boxes_apply (n : Fin 284) (i j : Fin 96) : min (boxes (ix4 n i j 0)).toInt.toNat 283 = n.val := by
  have e : boxes (ix4 n i j 0) = Scalar.select (IntOp.cmpi .slt (BitVec.ofNat 32 n.val) 0#32) (BitVec.ofNat 32 n.val + 284#32) (BitVec.ofNat 32 n.val) := by
    unfold boxes
    pointwise []
    rfl
  rw [e]
  have := n.isLt
  have h : (BitVec.ofNat 32 n.val).toInt = (n.val : ℤ) := by
    rw [BitVec.toInt_eq_toNat_of_lt (by rw [BitVec.toNat_ofNat]; omega), BitVec.toNat_ofNat]
    omega
  have c : IntOp.cmpi .slt (BitVec.ofNat 32 n.val) 0#32 = 0 := by
    show BitVec.ofBool ((BitVec.ofNat 32 n.val).slt 0#32) = 0
    rw [BitVec.slt, h, show (0#32 : BitVec 32).toInt = 0 from rfl, decide_eq_false (by omega)]
    rfl
  rw [c]
  show min (BitVec.ofNat 32 n.val).toInt.toNat 283 = n.val
  rw [h]
  omega

/-- The three words of a lookup: the box, -/
theorem starts_0 (a b c : IVec S284x96x96x1 32) (n : Fin 284) (i j : Fin 96) : starts a b c (ix4 n i j 0) = a (ix4 n i j 0) := by
  unfold starts
  pointwise []
/-- the row, -/
theorem starts_1 (a b c : IVec S284x96x96x1 32) (n : Fin 284) (i j : Fin 96) : starts a b c (ix4 n i j 1) = b (ix4 n i j 0) := by
  unfold starts
  pointwise []
/-- and the column. -/
theorem starts_2 (a b c : IVec S284x96x96x1 32) (n : Fin 284) (i j : Fin 96) : starts a b c (ix4 n i j 2) = c (ix4 n i j 0) := by
  unfold starts
  pointwise []

/-- The bit that says whether a corner lies in the patch. -/
theorem inside_apply (X Y : FVec Ideal S284x96x96 .f32) (n : Fin 284) (i j : Fin 96) :
    inside X Y (ix3 n i j) = insideBit (X (ix3 n i j)) (Y (ix3 n i j)) := by
  unfold inside insideBit
  pointwise []

/-- One of the four terms of the bilinear sample, at an index. -/
theorem quarter_apply (img : FVec Ideal S284x3x64x64 .f32) (X Y W : FVec Ideal S284x96x96 .f32) (n : Fin 284) (i j : Fin 96) (ch : Fin 3) :
    quarter img X Y W (ix4 n i j ch) = corner (fun r s => img (ix4 n ch r s)) (X (ix3 n i j)) (Y (ix3 n i j)) (W (ix3 n i j)) := by
  unfold quarter
  generalize hG : Host.gather gather_S284x3x64x64_S284x96x96x3_S284x96x96x3_3_023_n_n_023_3_1311 img (starts boxes (part (words Y)) (part (words X))) = G
  pointwise [inside_apply, id_eq]
  rw [← hG, take_pixel]
  have e : (⟨min (starts boxes (part (words Y)) (part (words X)) (ix4 n i j 0)).toInt.toNat 283, by omega⟩ : Fin 284) = n :=
    Fin.ext ((congrArg (fun z : BitVec 32 => min z.toInt.toNat 283) (starts_0 _ _ _ n i j)).trans (boxes_apply n i j))
  simp only [e, starts_1, starts_2, part_apply]
  unfold corner Scalar.select
  split
  · rfl
  · exact (zero_mul _).symm

/-- The reference's sum of the four nearest pixels. -/
theorem v305_quarters (V0 : Valuation τ sig (Elt Ideal)) : res_main_v305 V0 =
    addf (addf (addf (quarter (res_main_v50 V0) (res_main_v121 V0) (res_main_v122 V0) (mulf (res_main_v129 V0) (res_main_v132 V0)))
      (quarter (res_main_v50 V0) (res_main_v124 V0) (res_main_v122 V0) (mulf (res_main_v127 V0) (res_main_v132 V0))))
      (quarter (res_main_v50 V0) (res_main_v121 V0) (res_main_v126 V0) (mulf (res_main_v129 V0) (res_main_v130 V0))))
      (quarter (res_main_v50 V0) (res_main_v124 V0) (res_main_v126 V0) (mulf (res_main_v127 V0) (res_main_v130 V0))) := rfl

section
variable (V0 : Valuation τ sig (Elt Ideal)) (b : Fin 4) (k : Fin 71) (n : Fin 284) (hn : n.val = 71 * b.val + k.val) (i j : Fin 96)
include hn

/-- The flattened box parameters hold those of box k of image b. -/
theorem v51_apply (q : Fin 4) : res_main_v51 V0 (ix2 n q) = (V0 (Proc.devRef .tc main_arg1) : FVec Ideal S4x71x4 .f32) (ix3 b k q) := by
  unfold res_main_v51
  clean_types
  pointwise []
  exact congrArg₂ (fun x y => (V0 (Proc.devRef .tc main_arg1) : FVec Ideal S4x71x4 .f32) (ix3 x y q))
    (Fin.ext (by show n.val / 71 = b.val; omega)) (Fin.ext (by show n.val % 71 = k.val; omega))

/-- The source column of a canvas's column, -/
theorem v112_apply : (res_main_v112 V0 : FVec Ideal S284x96x96 .f32) (ix3 n i j)
    = coord ((V0 (Proc.devRef .tc main_arg1) : FVec Ideal S4x71x4 .f32) (ix3 b k 0)) ((V0 (Proc.devRef .tc main_arg1) : FVec Ideal S4x71x4 .f32) (ix3 b k 2)) j.val := by
  unfold res_main_v112 res_main_v86 res_main_v63 coord
  clean_types
  pointwise [v51_apply V0 b k n hn]

/-- and the source row of its row. -/
theorem v120_apply : (res_main_v120 V0 : FVec Ideal S284x96x96 .f32) (ix3 n i j)
    = coord ((V0 (Proc.devRef .tc main_arg1) : FVec Ideal S4x71x4 .f32) (ix3 b k 1)) ((V0 (Proc.devRef .tc main_arg1) : FVec Ideal S4x71x4 .f32) (ix3 b k 3)) i.val := by
  unfold res_main_v120 res_main_v86 res_main_v67 coord
  clean_types
  pointwise [v51_apply V0 b k n hn]

/-- The transformed patch of a box: at the canvas's pixel, the bilinear interpolation at the source coordinates. -/
theorem v305_apply (ch : Fin 3) : (res_main_v305 V0 : FVec Ideal S284x96x96x3 .f32) (ix4 n i j ch)
    = sampled (fun r s => (res_main_v50 V0 : FVec Ideal S284x3x64x64 .f32) (ix4 n ch r s))
        (coord ((V0 (Proc.devRef .tc main_arg1) : FVec Ideal S4x71x4 .f32) (ix3 b k 0)) ((V0 (Proc.devRef .tc main_arg1) : FVec Ideal S4x71x4 .f32) (ix3 b k 2)) j.val)
        (coord ((V0 (Proc.devRef .tc main_arg1) : FVec Ideal S4x71x4 .f32) (ix3 b k 1)) ((V0 (Proc.devRef .tc main_arg1) : FVec Ideal S4x71x4 .f32) (ix3 b k 3)) i.val) := by
  rw [v305_quarters, ← v112_apply V0 b k n hn i j, ← v120_apply V0 b k n hn i j]
  unfold sampled res_main_v129 res_main_v132 res_main_v127 res_main_v130 res_main_v124 res_main_v126 res_main_v121 res_main_v122
  generalize res_main_v112 V0 = X
  generalize res_main_v120 V0 = Y
  generalize res_main_v50 V0 = img
  clean_types
  pointwise [quarter_apply]
end

end Cert.ReferenceIdeal.Read
-- ==== Proof.ReferenceIdeal.Blend.lean ====
/- The reference's result read at a pixel of the canvas: the boxes' transformed patches under the softmax of their depths. -/
module

public import proofs.«01_k».proof.Proof.ReferenceIdeal.Decoder
public import proofs.«01_k».proof.Proof.ReferenceIdeal.Corners

@[expose] public section

set_option maxRecDepth 16384

noncomputable section

namespace Cert.ReferenceIdeal.Read

open Idealize.ShloMosaic Idealize.ShloMosaic.TcCoe Idealize.SL.Sem Cert.ReferenceIdeal Cert.ReferenceIdeal.Value Cert.Spec

variable [Facts]
open Facts₀ Facts

section
variable (V0 : Valuation τ sig (Elt Ideal)) (k : Fin 71) (r : Fin 36) (hr : (V0 (Proc.devRef .tc main_arg4) : IVec S71 32) (ix1 k) = BitVec.ofNat 32 r.val)
include hr

/-- The row number that the depths' lookup reads for a box is the box's index. -/
theorem word1 : (res_main_call1_v5 V0 : IVec S71x1 32) (ix2 k 0) = BitVec.ofNat 32 r.val := by
  unfold res_main_call1_v5
  clean_types
  pointwise [hr]
  exact word_kept r

/-- A box's depth: its row of the table where the box is present, minus one thousand where it is not. -/
theorem v310_apply (b : Fin 4) (P : FVec Ideal S4x71x1 .f32) (hP : V0 (Proc.devRef .tc main_arg2) = P) (T : FVec Ideal S4x36x1 .f32)
    (hT : V0 (Proc.devRef .tc main_arg3) = T) : (res_main_v310 V0 : FVec Ideal S4x71x1 .f32) (ix3 b k 0) = if P (ix3 b k 0) = 1 then T (ix3 b r 0) else absent := by
  unfold res_main_v310
  rw [hP, hT]
  generalize hG : Host.gather gather_S4x36x1_S71x1_S4x71x1_02_1_n_n_1_1_411 T (res_main_call1_v5 V0) = G
  clean_types
  pointwise []
  rw [fold_valid (fun x => (res_main_call1_v5 V0 : IVec S71x1 32) (ix2 k x)) r (word1 V0 k r hr), ← hG, take_depth]
  have e : (⟨min ((res_main_call1_v5 V0 : IVec S71x1 32) (ix2 k 0)).toInt.toNat 35, by omega⟩ : Fin 36) = r :=
    Fin.ext ((congrArg (fun z : BitVec 32 => min z.toInt.toNat 35) (word1 V0 k r hr)).trans (word_row r))
  rw [e]
  rfl
end

/-- The greatest depth of an image. -/
def top (D : FVec Ideal S4x71x1 .f32) (b : Fin 4) : EReal :=
  max (Ideal.ofBits .f32 4286578688#32) (Finset.fold max (Ideal.ofBits .f32 4286578688#32) (fun k : Fin 71 => D (ix3 b k 0)) Finset.univ)

/-- The reference's exponential of a box's depth less the largest one of its image. -/
theorem v317_apply (V0 : Valuation τ sig (Elt Ideal)) (D : FVec Ideal S4x71x1 .f32) (hD : res_main_v310 V0 = D) (b : Fin 4) (k : Fin 71) :
    (res_main_v317 V0 : FVec Ideal S4x71x1 .f32) (ix3 b k 0) = Ideal.exp (D (ix3 b k 0) - top D b) := by
  unfold res_main_v317 top
  rw [hD]
  clean_types
  pointwise []

/-- The last lines: the transformed patches `R` weighted by `E` divided by its sum, summed over the boxes. -/
def blended (R : FVec Ideal S284x96x96x3 .f32) (E : FVec Ideal S4x71x1 .f32) : FVec Ideal S4x3x96x96 .f32 :=
  Host.reduceAdd (mulf (shapeCast _ (transpose S284x3x96x96 [0, 3, 1, 2] R transposes_S284x96x96x3_S284x3x96x96_0_3_1_2) shapeCasts_S284x3x96x96_S4x71x3x96x96) (broadcastInDim S4x71x3x96x96 ![0, 1, 2, 3, 4] bcast_S4x71x1x1x1_S4x71x3x96x96_0_1_2_3_4 (broadcastInDim S4x71x1x1x1 ![0, 1, 2] bcast_S4x71x1_S4x71x1x1x1_0_1_2 (Host.divf E (broadcastInDim S4x71x1 ![0, 1, 2] bcast_S4x1x1_S4x71x1_0_1_2 (broadcastInDim S4x1x1 ![0, 2] bcast_S4x1_S4x1x1_0_2 (Host.reduceAdd E (constant S_ .f32 0x00000000#32) reducesTo_S4x71x1_S4x1_d1 h_S_))))))) (constant S_ .f32 0x00000000#32) reducesTo_S4x71x3x96x96_S4x3x96x96_d1 h_S_

/-- The reference's result at an index: the sum over the boxes of the placed patch times the softmax weight. -/
theorem blended_apply (R : FVec Ideal S284x96x96x3 .f32) (E : FVec Ideal S4x71x1 .f32) (b : Fin 4) (ch : Fin 3) (i j : Fin 96) :
    blended R E (ix4 b ch i j) = ∑ k : Fin 71, R (ix4 ⟨b.val * 71 + k.val, by omega⟩ i j ch) * Ideal.div (E (ix3 b k 0)) (∑ l : Fin 71, E (ix3 b l 0)) := by
  unfold blended
  clean_types
  pointwise []

end Cert.ReferenceIdeal.Read
-- ==== Proof.ReferenceIdeal.Result.lean ====
/- The reference's result from its arguments: the picture. -/
module

public import proofs.«01_k».proof.Proof.ReferenceIdeal.Blend
public import proofs.«01_k».proof.Proof.Scene

@[expose] public section

set_option maxRecDepth 16384

noncomputable section

namespace Cert.ReferenceIdeal.Read

open Idealize.ShloMosaic Idealize.ShloMosaic.TcCoe Idealize.SL.Sem Cert.ReferenceIdeal Cert.ReferenceIdeal.Value Cert.Spec

variable [Facts] (V0 : Valuation τ sig (Elt Ideal))

/-- The greatest of finite depths is finite. -/
theorem top_coe (X : FVec Ideal S4x71x1 .f32) (b : Fin 4) (D : Fin 71 → ℝ) (hX : ∀ k : Fin 71, X (ix3 b k 0) = (D k : EReal)) : ∃ M : ℝ, top X b = M := by
  obtain ⟨M, hM⟩ := greatest_coe Finset.univ (fun k : Fin 71 => X (ix3 b k 0)) ⟨0, Finset.mem_univ _⟩ (fun k _ => ⟨D k, hX k⟩)
  refine ⟨M, ?_⟩
  unfold top
  rw [hM, least_word]
  exact max_eq_right bot_le

/-- The reference's result is the picture. -/
theorem result (at_ : Fin 71 → Fin 36) (hi : ∀ k : Fin 71, (V0 (Proc.devRef .tc main_arg4) : IVec S71 32) (ix1 k) = BitVec.ofNat 32 (at_ k).val)
    (D : Fin 4 → Fin 71 → ℝ)
    (hD : ∀ b k, depth (V0 (Proc.devRef .tc main_arg2) : FVec Ideal S4x71x1 .f32) (V0 (Proc.devRef .tc main_arg3) : FVec Ideal S4x36x1 .f32) at_ b k = (D b k : EReal)) :
    blended (res_main_v305 V0) (res_main_v317 V0) = fun y : S4x3x96x96.Idx =>
      scene (givenNet V0) (V0 (Proc.devRef .tc main_arg0) : FVec Ideal S4x36x64 .f32) (V0 (Proc.devRef .tc main_arg1) : FVec Ideal S4x71x4 .f32) at_ D
        (y 0) (y 1) (y 2) (y 3) := by
  funext y
  have hX : ∀ k : Fin 71, (res_main_v310 V0 : FVec Ideal S4x71x1 .f32) (ix3 (y 0) k 0) = (D (y 0) k : EReal) := fun k =>
    (v310_apply V0 k (at_ k) (hi k) (y 0) _ rfl _ rfl).trans (hD (y 0) k)
  obtain ⟨M, hM⟩ := top_coe (res_main_v310 V0) (y 0) (D (y 0)) hX
  have hE : ∀ k : Fin 71, (res_main_v317 V0 : FVec Ideal S4x71x1 .f32) (ix3 (y 0) k 0) = Ideal.exp ((D (y 0) k : EReal) - M) := fun k => by
    rw [v317_apply V0 _ rfl (y 0) k, hX k, hM]
  refine (congrArg (blended (res_main_v305 V0) (res_main_v317 V0)) (eq_ix4 y)).trans ?_
  refine (blended_apply _ _ (y 0) (y 1) (y 2) (y 3)).trans ?_
  unfold scene
  refine Finset.sum_congr rfl fun k _ => ?_
  have hk := k.isLt
  have hn : (⟨(y 0).val * 71 + k.val, by have := (y 0).isLt; change (y 0).val < 4 at this; omega⟩ : Fin 284).val = 71 * (y 0).val + k.val := by
    show (y 0).val * 71 + k.val = _
    omega
  simp only [hE, softmax_eq]
  refine congrArg (· * _) ((v305_apply V0 (y 0) k _ hn (y 2) (y 3) (y 1)).trans ?_)
  refine congrArg (fun g => sampled g _ _) (funext fun r => funext fun s => ?_)
  refine (v50_apply V0 _ (y 1) r s).trans ?_
  unfold patch
  exact congrArg (fun z => Ideal.logistic ((givenNet V0).logit z r.val s.val (y 1)))
    (funext fun e => entering_apply V0 k (at_ k) (hi k) (y 0) _ hn e)

end Cert.ReferenceIdeal.Read
-- ==== Proof.Ranges.lean ====
/- What the precondition says of the arguments: every index names a row of the table, and every depth is finite. -/
module

public import proofs.«01_k».proof.Pre_inputs_in_range
public import Idealize.ShloMosaic.Lib.Pointwise

@[expose] public section

set_option maxRecDepth 16384

noncomputable section

namespace Cert.Pre_inputs_in_range

open Idealize.ShloMosaic

/-- The shape relations that the precondition's operations take. -/
theorem facts : Facts where
  bcast_S_S71 := by decide
  shapeCasts_S4x36x1_S4x36 := by decide
  bcast_S_S4x36 := by decide
  bcast_S71_S1x71x1_1 := by decide
  bcast_S4x36_S4x1x36_0_2 := by decide
  bcast_S1x71x1_S4x71x36_0_1_2 := by decide
  bcast_S4x1x36_S4x71x36_0_1_2 := by decide

/-- A word between 0 and 36 is the word of a table row. -/
theorem word_in_table (w : BitVec 32) (h : IntOp.andi (IntOp.cmpi .sge w 0#32) (IntOp.cmpi .slt w 36#32) = 1#1) : ∃ r : Fin 36, w = BitVec.ofNat 32 r.val := by
  have h' : (0#32).sle w = true ∧ w.slt 36#32 = true := by
    revert h
    simp only [IntOp.andi, IntOp.cmpi]
    cases (0#32).sle w <;> cases w.slt 36#32 <;> decide
  rw [BitVec.sle_iff_toInt_le, BitVec.slt_iff_toInt_lt] at h'
  obtain ⟨h0, h1⟩ := h'
  have e0 : (0#32).toInt = 0 := rfl
  have e1 : (36#32).toInt = 36 := rfl
  rw [e0] at h0
  rw [e1] at h1
  have ht : w.toNat < 36 := by
    rw [BitVec.toInt_eq_toNat_cond] at h0 h1
    have := w.isLt
    split at h0 <;> omega
  exact ⟨⟨w.toNat, ht⟩, by simp⟩

/-- A number whose absolute value is less than infinity is finite. -/
theorem finite_of_abs (x : EReal) (h : FloatOps.absf (F := Ideal) (φ := .f32) x < Ideal.ofBits .f32 2139095040#32) : ∃ v : ℝ, x = v := by
  have e : Ideal.ofBits .f32 2139095040#32 = ⊤ := by simp [Ideal.ofBits, Ideal.ieee]
  rw [e] at h
  induction x with
  | coe v => exact ⟨v, rfl⟩
  | top => exact absurd (lt_of_le_of_lt (le_max_left (⊤ : EReal) (-⊤)) h) (lt_irrefl _)
  | bot => exact absurd (lt_of_le_of_lt (le_max_right (⊥ : EReal) (-⊥)) h) (by rw [EReal.neg_bot]; exact lt_irrefl _)

variable [Facts]
variable {a0 : FVec Ideal S4x36x64 .f32} {a1 : FVec Ideal S4x71x4 .f32} {a2 : FVec Ideal S4x71x1 .f32} {a3 : FVec Ideal S4x36x1 .f32} {a4 : IVec S71 32}
  {a5 : FVec Ideal S64x128x2x2 .f32} {a6 : FVec Ideal S128 .f32} {a7 : FVec Ideal S128x128x2x2 .f32} {a8 : FVec Ideal S128 .f32}
  {a9 : FVec Ideal S128x64x2x2 .f32} {a10 : FVec Ideal S64 .f32} {a11 : FVec Ideal S64x64x2x2 .f32} {a12 : FVec Ideal S64 .f32}
  {a13 : FVec Ideal S64x32x2x2 .f32} {a14 : FVec Ideal S32 .f32} {a15 : FVec Ideal S32x3x2x2 .f32} {a16 : FVec Ideal S3 .f32}

/-- Two bits whose conjunction is one are one. -/
theorem both {a b : BitVec 1} (h : IntOp.andi a b = 1#1) : a = 1#1 ∧ b = 1#1 := by
  revert a b
  decide

/-- Where the precondition's bit is one, the box's index is in range and the row's depth is finite. -/
theorem bit_means (b : Fin 4) (k : Fin 71) (r : Fin 36)
    (h : fn (F := Ideal) a0 a1 a2 a3 a4 a5 a6 a7 a8 a9 a10 a11 a12 a13 a14 a15 a16 (ix3 b k r) = 1#1) :
    (∃ r : Fin 36, a4 (ix1 k) = BitVec.ofNat 32 r.val) ∧ ∃ v : ℝ, a3 (ix3 b r 0) = v := by
  revert h
  unfold fn
  pointwise []
  intro h
  obtain ⟨h1, h2⟩ := both h
  refine ⟨word_in_table _ h1, finite_of_abs _ ?_⟩
  by_contra hn
  rw [decide_eq_false hn] at h2
  exact absurd h2 (by decide)

/-- Under the precondition every index is the word of a table row, and every depth is a real number. -/
theorem ranges (h : fn (F := Ideal) a0 a1 a2 a3 a4 a5 a6 a7 a8 a9 a10 a11 a12 a13 a14 a15 a16 = fun _ => 1#1) :
    (∃ at_ : Fin 71 → Fin 36, ∀ k : Fin 71, a4 (ix1 k) = BitVec.ofNat 32 (at_ k).val) ∧ ∀ (b : Fin 4) (r : Fin 36), ∃ v : ℝ, a3 (ix3 b r 0) = v := by
  have hb : ∀ b k r, _ := fun b k r => bit_means b k r (congrFun h (ix3 b k r))
  choose at_ hat using fun k => (hb 0 k 0).1
  exact ⟨⟨at_, hat⟩, fun b r => (hb b 0 r).2⟩

end Cert.Pre_inputs_in_range
-- ==== Proof.Twin.lean ====
/- The two printed texts of the kernel, the one read at bit patterns and the one read at the extended reals, are one program:
   the frame of the one, proved at every float instance, is the frame of the other. -/
module

public import proofs.«01_k».proof.Defs
public import proofs.«01_k».proof.Proof.Gen.Kernel
public import proofs.«01_k».proof.Proof.Gen.KernelIdeal
public import proofs.«01_k».proof.Proof.KernelIdeal.Whole

@[expose] public section

set_option maxRecDepth 16384

noncomputable section

namespace Cert.Twin

open Idealize.ShloMosaic Idealize.ShloMosaic.TcCoe Idealize.ShloMosaic.Tactic Idealize.SL.Sem

attribute [local instance] Cert.Kernel.Gen.facts Cert.KernelIdeal.Gen.facts

/-- The frame of the program at bit patterns, spelt over the text read at the extended reals. -/
def frameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

/-- The two statements are one, by computation. -/
theorem frameBits_eq : quiescent_Kernel = frameBits := by sl_kernel_rfl

/-- The kernel's frame at bit patterns. -/
theorem frame_kernel : quiescent_Kernel := by
  rw [frameBits_eq]; exact fun m g _ => Cert.KernelIdeal.Stage.frame m g

end Cert.Twin
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelIdeal.Result
public import proofs.«01_k».proof.Proof.ReferenceIdeal.Result
public import proofs.«01_k».proof.Proof.Ranges
public import proofs.«01_k».proof.Proof.Twin
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

attribute [local instance] Cert.Kernel.Gen.facts Cert.KernelIdeal.Gen.facts Cert.ReferenceIdeal.Gen.facts

/-- The kernel at the extended reals ends, leaves its arguments as they were and every counter at zero. -/
theorem frame_ideal : quiescent_KernelIdeal := fun m g _ => Cert.KernelIdeal.Stage.frame m g

/-- So does the reference: it declares no semaphore, so its counters are at zero whatever it does. -/
theorem frame_reference : quiescent_ReferenceIdeal := fun m g _ =>
  (θ_run Cert.ReferenceIdeal.defs _ _).mono
    (fun r h => ⟨fun c => (h c).2, sem_eq_zero_of_no_sems rfl _⟩)
    (Cert.ReferenceIdeal.Value.run m g)

/-- The two programs' networks are the same where their weights are. -/
theorem same_net (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.Read.givenNet (StableHlo.launchContents m' c) = Cert.KernelIdeal.Stage.argNet m c :=
  Cert.KernelIdeal.Stage.net_same (congrArg Cert.Spec.weights h5) (congrArg Cert.Spec.bias h6) (congrArg Cert.Spec.weights h7) (congrArg Cert.Spec.bias h8) (congrArg Cert.Spec.weights h9) (congrArg Cert.Spec.bias h10) (congrArg Cert.Spec.weights h11) (congrArg Cert.Spec.bias h12) (congrArg Cert.Spec.weights h13) (congrArg Cert.Spec.bias h14) (congrArg Cert.Spec.weights h15) (congrArg Cert.Spec.bias h16)

/-- For arguments with every index in the table and every depth finite, the kernel and the reference, both at the extended
    reals, end with equal results: both are the picture of those arguments. -/
theorem same_picture : algebraic_KernelIdeal_ReferenceIdeal_pre_inputs_in_range (hPre_inputs_in_range := Cert.Pre_inputs_in_range.facts) := by
  intro m g m' g' hpre hagree
  refine ⟨fun c => Cert.KernelIdeal.Stage.W14 m g c (Proc.devRef .tc Cert.KernelIdeal.main_v43), ?_, ?_⟩
  · refine (θ_run Cert.KernelIdeal.defs _ _).mono (fun r h c => ?_) (Cert.KernelIdeal.Stage.run m g)
    refine ⟨h.1 c _ (Cert.KernelIdeal.Stage.mem_uc _ (by decide)), ?_, ?_, ?_, ?_, ?_, ?_, ?_, ?_, ?_, ?_, ?_, ?_, ?_, ?_, ?_, ?_, ?_⟩ <;>
      exact (h.1 c _ (Cert.KernelIdeal.Stage.mem_uc _ (by decide))).trans (Cert.KernelIdeal.Stage.W14_args m g c _ (by decide))
  · refine (θ_run Cert.ReferenceIdeal.defs _ _).mono (fun r h c => ⟨?_, (h c).2⟩) (Cert.ReferenceIdeal.Value.run m' g')
    obtain ⟨⟨at_, hi⟩, hT⟩ := @Cert.Pre_inputs_in_range.ranges Cert.Pre_inputs_in_range.facts _ _ _ _ _ _ _ _ _ _ _ _ _ _ _ _ _ (hpre c)
    obtain ⟨D, hD⟩ := Cert.Spec.depth_coe _ _ at_ hT
    obtain ⟨h0, h1, h2, h3, h4, h5, h6, h7, h8, h9, h10, h11, h12, h13, h14, h15, h16⟩ := hagree c
    refine ((h c).1.trans (Cert.ReferenceIdeal.Read.result (StableHlo.launchContents m' c) at_ ?_ D ?_)).trans
      (Eq.trans ?_ (Cert.KernelIdeal.Stage.result m g c at_ hi D hD).symm)
    · exact fun k => (congrFun h4 (ix1 k)).trans (hi k)
    · exact fun b k => (congrArg₂ (fun P T => Cert.Spec.depth P T at_ b k) h2 h3).trans (hD b k)
    · exact funext fun y => congrFun (congrFun (congrFun (congrFun (Cert.Spec.scene_congr at_ D
        (same_net m m' c h5 h6 h7 h8 h9 h10 h11 h12 h13 h14 h15 h16) h0 h1) (y 0)) (y 1)) (y 2)) (y 3)

/-- Everything that is claimed. -/
theorem claim : Cert.Claim :=
  ⟨Cert.Kernel.Gen.facts, Cert.KernelIdeal.Gen.facts, Cert.ReferenceIdeal.Gen.facts, Cert.Pre_inputs_in_range.facts,
    Cert.Twin.frame_kernel, frame_ideal, fun m g _ => frame_ideal m g trivial, frame_reference, fun m g _ => frame_reference m g trivial, trivial, same_picture⟩

end Cert.Proof

end
